-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_largest [hPre_one_largest : Cert.Pre_one_largest.Facts] (m : (ℓ : Loc Cert.KernelIdeal.nD Cert.KernelIdeal.τ Cert.KernelIdeal.sig) → Buf (Elt Ideal) ℓ) : Prop :=
  ∀ c : Dev Cert.KernelIdeal.nD,
    (Cert.Pre_one_largest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_largest [hPre_one_largest : Cert.Pre_one_largest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_largest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_one_largest [hKernelIdeal : Cert.KernelIdeal.Facts] [hPre_one_largest : Cert.Pre_one_largest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_largest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_one_largest [hReferenceIdeal : Cert.ReferenceIdeal.Facts] [hPre_one_largest : Cert.Pre_one_largest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_largest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_one_largest [hKernelIdeal : Cert.KernelIdeal.Facts] [hReferenceIdeal : Cert.ReferenceIdeal.Facts] [hPre_one_largest : Cert.Pre_one_largest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_largest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_one_largest : Cert.Pre_one_largest.Facts),
    quiescent_Kernel (hKernel := hKernel)
    ∧ quiescent_KernelIdeal (hKernelIdeal := hKernelIdeal)
    ∧ quiescent_KernelIdeal_pre_one_largest (hKernelIdeal := hKernelIdeal) (hPre_one_largest := hPre_one_largest)
    ∧ quiescent_ReferenceIdeal (hReferenceIdeal := hReferenceIdeal)
    ∧ quiescent_ReferenceIdeal_pre_one_largest (hReferenceIdeal := hReferenceIdeal) (hPre_one_largest := hPre_one_largest)
    ∧ preserves_Kernel_KernelIdeal
    ∧ algebraic_KernelIdeal_ReferenceIdeal_pre_one_largest (hKernelIdeal := hKernelIdeal) (hReferenceIdeal := hReferenceIdeal) (hPre_one_largest := hPre_one_largest)
-- ==== Pre_one_largest.lean ====
abbrev S8x8192x3 : Shape := ⟨3, ![8, 8192, 3]⟩
abbrev S19x64 : Shape := ⟨2, ![19, 64]⟩
abbrev S64 : Shape := ⟨1, ![64]⟩
abbrev S64x64 : Shape := ⟨2, ![64, 64]⟩
abbrev S83x64 : Shape := ⟨2, ![83, 64]⟩
abbrev S64x512 : Shape := ⟨2, ![64, 512]⟩
abbrev S512 : Shape := ⟨1, ![512]⟩
abbrev S592x64 : Shape := ⟨2, ![592, 64]⟩
abbrev S64x3 : Shape := ⟨2, ![64, 3]⟩
abbrev S3 : Shape := ⟨1, ![3]⟩
abbrev S8192 : Shape := ⟨1, ![8192]⟩
abbrev S8192x1 : Shape := ⟨2, ![8192, 1]⟩
abbrev S16 : Shape := ⟨1, ![16]⟩
abbrev S1x16 : Shape := ⟨2, ![1, 16]⟩
abbrev S8192x16 : Shape := ⟨2, ![8192, 16]⟩
abbrev S_ : Shape := ⟨0, ![]⟩
abbrev S8x8192x16 : Shape := ⟨3, ![8, 8192, 16]⟩
abbrev S8x8192x19 : Shape := ⟨3, ![8, 8192, 19]⟩
abbrev S8x8192x64 : Shape := ⟨3, ![8, 8192, 64]⟩
abbrev S1x1x64 : Shape := ⟨3, ![1, 1, 64]⟩
abbrev S8x64 : Shape := ⟨2, ![8, 64]⟩
abbrev S1x64 : Shape := ⟨2, ![1, 64]⟩
abbrev S8x1x64 : Shape := ⟨3, ![8, 1, 64]⟩
abbrev S8x8192x83 : Shape := ⟨3, ![8, 8192, 83]⟩
abbrev S8x8192x512 : Shape := ⟨3, ![8, 8192, 512]⟩
abbrev S1x1x512 : Shape := ⟨3, ![1, 1, 512]⟩
abbrev S8x8192 : Shape := ⟨2, ![8, 8192]⟩
abbrev S8x8192x1 : Shape := ⟨3, ![8, 8192, 1]⟩

class Facts : Prop where
  bcast_S8192_S8192x1_0 : S8192.BroadcastsInDim S8192x1 (![0] : Fin 1 → Fin S8192x1.rank)
  bcast_S16_S1x16_1 : S16.BroadcastsInDim S1x16 (![1] : Fin 1 → Fin S1x16.rank)
  bcast_S8192x1_S8192x16_0_1 : S8192x1.BroadcastsInDim S8192x16 (![0, 1] : Fin 2 → Fin S8192x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  bcast_S8192x16_S8x8192x16_1_2 : S8192x16.BroadcastsInDim S8x8192x16 (![1, 2] : Fin 2 → Fin S8x8192x16.rank)
  concatenates_S8x8192x3_S8x8192x16_S8x8192x19_d2 : Shape.Concatenates [S8x8192x3, S8x8192x16] S8x8192x19 2
  bcast_S64_S1x1x64_2 : S64.BroadcastsInDim S1x1x64 (![2] : Fin 1 → Fin S1x1x64.rank)
  bcast_S1x1x64_S8x8192x64_0_1_2 : S1x1x64.BroadcastsInDim S8x8192x64 (![0, 1, 2] : Fin 3 → Fin S8x8192x64.rank)
  bcast_S_S8x8192x64 : S_.BroadcastsInDim S8x8192x64 (![] : Fin 0 → Fin S8x8192x64.rank)
  reducesTo_S8x8192x64_S8x64_d1 : S8x8192x64.ReducesTo [1] S8x64
  h_S_ : 0 < S_.numel
  bcast_S_S8x64 : S_.BroadcastsInDim S8x64 (![] : Fin 0 → Fin S8x64.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S8x64_S8x1x64_0_2 : S8x64.BroadcastsInDim S8x1x64 (![0, 2] : Fin 2 → Fin S8x1x64.rank)
  bcast_S8x1x64_S8x8192x64_0_1_2 : S8x1x64.BroadcastsInDim S8x8192x64 (![0, 1, 2] : Fin 3 → Fin S8x8192x64.rank)
  concatenates_S8x8192x3_S8x8192x16_S8x8192x64_S8x8192x83_d2 : Shape.Concatenates [S8x8192x3, S8x8192x16, S8x8192x64] S8x8192x83 2
  bcast_S512_S1x1x512_2 : S512.BroadcastsInDim S1x1x512 (![2] : Fin 1 → Fin S1x1x512.rank)
  bcast_S1x1x512_S8x8192x512_0_1_2 : S1x1x512.BroadcastsInDim S8x8192x512 (![0, 1, 2] : Fin 3 → Fin S8x8192x512.rank)
  reducesTo_S8x8192x512_S8x8192_d2 : S8x8192x512.ReducesTo [2] S8x8192
  bcast_S8x8192_S8x8192x1_0_1 : S8x8192.BroadcastsInDim S8x8192x1 (![0, 1] : Fin 2 → Fin S8x8192x1.rank)
  bcast_S8x8192x1_S8x8192x512_0_1_2 : S8x8192x1.BroadcastsInDim S8x8192x512 (![0, 1, 2] : Fin 3 → Fin S8x8192x512.rank)
  natLt_1_32 : 1 < 32
  bcast_S_S8x8192 : S_.BroadcastsInDim S8x8192 (![] : Fin 0 → Fin S8x8192.rank)
  shapeCasts_S8x8192x1_S8x8192 : S8x8192x1.ShapeCasts S8x8192
  dot_S8x8192x19_S19x64_S8x8192x64_2_0_01_1_n_n_wf : DotDims.WF S8x8192x19 S19x64 S8x8192x64 [2] [0] [0, 1] [1] [] []
  dot_S8x8192x64_S64x64_S8x8192x64_2_0_01_1_n_n_wf : DotDims.WF S8x8192x64 S64x64 S8x8192x64 [2] [0] [0, 1] [1] [] []
  dot_S8x64_S64x64_S8x64_1_0_0_1_n_n_wf : DotDims.WF S8x64 S64x64 S8x64 [1] [0] [0] [1] [] []
  dot_S8x8192x83_S83x64_S8x8192x64_2_0_01_1_n_n_wf : DotDims.WF S8x8192x83 S83x64 S8x8192x64 [2] [0] [0, 1] [1] [] []
  dot_S8x8192x64_S64x512_S8x8192x512_2_0_01_1_n_n_wf : DotDims.WF S8x8192x64 S64x512 S8x8192x512 [2] [0] [0, 1] [1] [] []

variable [Facts]

def dot_S8x8192x19_S19x64_S8x8192x64_2_0_01_1_n_n : DotDims S8x8192x19 S19x64 S8x8192x64 where
  lhsContracting := [2]
  rhsContracting := [0]
  lhsNonContracting := [0, 1]
  rhsNonContracting := [1]
  lhsBatch := []
  rhsBatch := []
  wf := dot_S8x8192x19_S19x64_S8x8192x64_2_0_01_1_n_n_wf
def dot_S8x8192x64_S64x64_S8x8192x64_2_0_01_1_n_n : DotDims S8x8192x64 S64x64 S8x8192x64 where
  lhsContracting := [2]
  rhsContracting := [0]
  lhsNonContracting := [0, 1]
  rhsNonContracting := [1]
  lhsBatch := []
  rhsBatch := []
  wf := dot_S8x8192x64_S64x64_S8x8192x64_2_0_01_1_n_n_wf
def dot_S8x64_S64x64_S8x64_1_0_0_1_n_n : DotDims S8x64 S64x64 S8x64 where
  lhsContracting := [1]
  rhsContracting := [0]
  lhsNonContracting := [0]
  rhsNonContracting := [1]
  lhsBatch := []
  rhsBatch := []
  wf := dot_S8x64_S64x64_S8x64_1_0_0_1_n_n_wf
def dot_S8x8192x83_S83x64_S8x8192x64_2_0_01_1_n_n : DotDims S8x8192x83 S83x64 S8x8192x64 where
  lhsContracting := [2]
  rhsContracting := [0]
  lhsNonContracting := [0, 1]
  rhsNonContracting := [1]
  lhsBatch := []
  rhsBatch := []
  wf := dot_S8x8192x83_S83x64_S8x8192x64_2_0_01_1_n_n_wf
def dot_S8x8192x64_S64x512_S8x8192x512_2_0_01_1_n_n : DotDims S8x8192x64 S64x512 S8x8192x512 where
  lhsContracting := [2]
  rhsContracting := [0]
  lhsNonContracting := [0, 1]
  rhsNonContracting := [1]
  lhsBatch := []
  rhsBatch := []
  wf := dot_S8x8192x64_S64x512_S8x8192x512_2_0_01_1_n_n_wf
def fn_relu {F : FTy → Type} [FloatOps F] (arg0 : FVec F S8x8192x64 .f32) : FVec F S8x8192x64 .f32 :=
  let cst : FVec F S_ .f32 := constant S_ .f32 0x00000000#32
  let v0 : FVec F S8x8192x64 .f32 := broadcastInDim S8x8192x64 ![] bcast_S_S8x8192x64 cst
  let v1 : FVec F S8x8192x64 .f32 := maximumf arg0 v0
  v1

def fn_part2 {F : FTy → Type} [FloatOps F] (main_v42 : FVec F S8x8192x512 .f32) (main_v44 : FVec F S8x8192x512 .f32) : IVec S8x8192 1 :=
  let main_v45 : FVec F S8x8192x512 .f32 := addf main_v42 main_v44
  let main_cst_1 : FVec F S_ .f32 := constant S_ .f32 0xFF800000#32
  let main_v46 : FVec F S8x8192 .f32 := (fun x v => Host.reduce FloatOps.maximumf x v reducesTo_S8x8192x512_S8x8192_d2 h_S_) main_v45 main_cst_1
  let main_v47 : FVec F S8x8192x1 .f32 := broadcastInDim S8x8192x1 ![0, 1] bcast_S8x8192_S8x8192x1_0_1 main_v46
  let main_v48 : FVec F S8x8192x512 .f32 := broadcastInDim S8x8192x512 ![0, 1, 2] bcast_S8x8192x1_S8x8192x512_0_1_2 main_v47
  let main_v49 : IVec S8x8192x512 1 := cmpf .oeq main_v45 main_v48
  let main_v50 : IVec S8x8192x512 32 := (extui 32 · natLt_1_32) main_v49
  let main_c_2 : IVec S_ 32 := constantI S_ 32 0#32
  let main_v51 : IVec S8x8192 32 := (fun x v => Host.reduce IntOp.addi x v reducesTo_S8x8192x512_S8x8192_d2 h_S_) main_v50 main_c_2
  let main_c_3 : IVec S_ 32 := constantI S_ 32 1#32
  let main_v52 : IVec S8x8192 32 := broadcastInDim S8x8192 ![] bcast_S_S8x8192 main_c_3
  let main_v53 : IVec S8x8192 1 := cmpi .eq main_v51 main_v52
  let main_v54 : FVec F S8x8192 .f32 := shapeCast S8x8192 main_v47 shapeCasts_S8x8192x1_S8x8192
  let main_cst_4 : FVec F S_ .f32 := constant S_ .f32 0x7F800000#32
  let main_v55 : FVec F S8x8192 .f32 := broadcastInDim S8x8192 ![] bcast_S_S8x8192 main_cst_4
  let main_v56 : IVec S8x8192 1 := cmpf .olt main_v54 main_v55
  let main_v57 : IVec S8x8192 1 := andi main_v53 main_v56
  main_v57

def fn_part1 {F : FTy → Type} [FloatOps F] (main_arg0 : FVec F S8x8192x3 .f32) (main_arg5 : FVec F S64x64 .f32) (main_arg6 : FVec F S64 .f32) (main_arg7 : FVec F S83x64 .f32) (main_arg8 : FVec F S64 .f32) (main_arg9 : FVec F S64x64 .f32) (main_arg10 : FVec F S64 .f32) (main_arg11 : FVec F S64x512 .f32) (main_arg12 : FVec F S512 .f32) (main_v10 : FVec F S8x8192x16 .f32) (main_v21 : FVec F S8x8192x64 .f32) (main_cst : FVec F S_ .f32) : IVec S8x8192 1 :=
  let main_v22 : FVec F S8x64 .f32 := (fun x v => Host.reduceAdd x v reducesTo_S8x8192x64_S8x64_d1 h_S_) main_v21 main_cst
  let main_cst_0 : FVec F S_ .f32 := constant S_ .f32 0x46000000#32
  let main_v23 : FVec F S8x64 .f32 := broadcastInDim S8x64 ![] bcast_S_S8x64 main_cst_0
  let main_v24 : FVec F S8x64 .f32 := Host.divf main_v22 main_v23
  let main_v25 : FVec F S8x64 .f32 := (fun l r => Host.dotGeneral dot_S8x64_S64x64_S8x64_1_0_0_1_n_n none l r) main_v24 main_arg5
  let main_v26 : FVec F S1x64 .f32 := broadcastInDim S1x64 ![1] bcast_S64_S1x64_1 main_arg6
  let main_v27 : FVec F S8x64 .f32 := broadcastInDim S8x64 ![0, 1] bcast_S1x64_S8x64_0_1 main_v26
  let main_v28 : FVec F S8x64 .f32 := addf main_v25 main_v27
  let main_v29 : FVec F S8x1x64 .f32 := broadcastInDim S8x1x64 ![0, 2] bcast_S8x64_S8x1x64_0_2 main_v28
  let main_v30 : FVec F S8x8192x64 .f32 := broadcastInDim S8x8192x64 ![0, 1, 2] bcast_S8x1x64_S8x8192x64_0_1_2 main_v29
  let main_v31 : FVec F S8x8192x83 .f32 := concatenate S8x8192x83 2 [⟨S8x8192x3, main_arg0⟩, ⟨S8x8192x16, main_v10⟩, ⟨S8x8192x64, main_v30⟩] concatenates_S8x8192x3_S8x8192x16_S8x8192x64_S8x8192x83_d2
  let main_v32 : FVec F S8x8192x64 .f32 := (fun l r => Host.dotGeneral dot_S8x8192x83_S83x64_S8x8192x64_2_0_01_1_n_n none l r) main_v31 main_arg7
  let main_v33 : FVec F S1x1x64 .f32 := broadcastInDim S1x1x64 ![2] bcast_S64_S1x1x64_2 main_arg8
  let main_v34 : FVec F S8x8192x64 .f32 := broadcastInDim S8x8192x64 ![0, 1, 2] bcast_S1x1x64_S8x8192x64_0_1_2 main_v33
  let main_v35 : FVec F S8x8192x64 .f32 := addf main_v32 main_v34
  let main_v36 : FVec F S8x8192x64 .f32 := fn_relu (F := F) main_v35
  let main_v37 : FVec F S8x8192x64 .f32 := (fun l r => Host.dotGeneral dot_S8x8192x64_S64x64_S8x8192x64_2_0_01_1_n_n none l r) main_v36 main_arg9
  let main_v38 : FVec F S1x1x64 .f32 := broadcastInDim S1x1x64 ![2] bcast_S64_S1x1x64_2 main_arg10
  let main_v39 : FVec F S8x8192x64 .f32 := broadcastInDim S8x8192x64 ![0, 1, 2] bcast_S1x1x64_S8x8192x64_0_1_2 main_v38
  let main_v40 : FVec F S8x8192x64 .f32 := addf main_v37 main_v39
  let main_v41 : FVec F S8x8192x64 .f32 := fn_relu (F := F) main_v40
  let main_v42 : FVec F S8x8192x512 .f32 := (fun l r => Host.dotGeneral dot_S8x8192x64_S64x512_S8x8192x512_2_0_01_1_n_n none l r) main_v41 main_arg11
  let main_v43 : FVec F S1x1x512 .f32 := broadcastInDim S1x1x512 ![2] bcast_S512_S1x1x512_2 main_arg12
  let main_v44 : FVec F S8x8192x512 .f32 := broadcastInDim S8x8192x512 ![0, 1, 2] bcast_S1x1x512_S8x8192x512_0_1_2 main_v43
  fn_part2 (F := F) main_v42 main_v44

def fn {F : FTy → Type} [FloatOps F] (main_arg0 : FVec F S8x8192x3 .f32) (main_arg1 : FVec F S19x64 .f32) (main_arg2 : FVec F S64 .f32) (main_arg3 : FVec F S64x64 .f32) (main_arg4 : FVec F S64 .f32) (main_arg5 : FVec F S64x64 .f32) (main_arg6 : FVec F S64 .f32) (main_arg7 : FVec F S83x64 .f32) (main_arg8 : FVec F S64 .f32) (main_arg9 : FVec F S64x64 .f32) (main_arg10 : FVec F S64 .f32) (main_arg11 : FVec F S64x512 .f32) (main_arg12 : FVec F S512 .f32) (main_arg13 : FVec F S592x64 .f32) (main_arg14 : FVec F S64 .f32) (main_arg15 : FVec F S64x64 .f32) (main_arg16 : FVec F S64 .f32) (main_arg17 : FVec F S64x3 .f32) (main_arg18 : FVec F S3 .f32) : IVec S8x8192 1 :=
  let main_v0 : IVec S8192 32 := iotaInDim S8192 32 0
  let main_v1 : IVec S8192x1 32 := broadcastInDim S8192x1 ![0] bcast_S8192_S8192x1_0 main_v0
  let main_v2 : IVec S16 32 := iotaInDim S16 32 0
  let main_v3 : IVec S1x16 32 := broadcastInDim S1x16 ![1] bcast_S16_S1x16_1 main_v2
  let main_v4 : IVec S8192x16 32 := broadcastInDim S8192x16 ![0, 1] bcast_S8192x1_S8192x16_0_1 main_v1
  let main_v5 : IVec S8192x16 32 := broadcastInDim S8192x16 ![0, 1] bcast_S1x16_S8192x16_0_1 main_v3
  let main_v6 : IVec S8192x16 32 := Host.shrsi main_v4 main_v5
  let main_c : IVec S_ 32 := constantI S_ 32 1#32
  let main_v7 : IVec S8192x16 32 := broadcastInDim S8192x16 ![] bcast_S_S8192x16 main_c
  let main_v8 : IVec S8192x16 32 := andi main_v6 main_v7
  let main_v9 : FVec F S8192x16 .f32 := sitofp .f32 main_v8
  let main_v10 : FVec F S8x8192x16 .f32 := broadcastInDim S8x8192x16 ![1, 2] bcast_S8192x16_S8x8192x16_1_2 main_v9
  let main_v11 : FVec F S8x8192x19 .f32 := (fun a b => concatenate S8x8192x19 2 [⟨S8x8192x3, a⟩, ⟨S8x8192x16, b⟩] concatenates_S8x8192x3_S8x8192x16_S8x8192x19_d2) main_arg0 main_v10
  let main_v12 : FVec F S8x8192x64 .f32 := (fun l r => Host.dotGeneral dot_S8x8192x19_S19x64_S8x8192x64_2_0_01_1_n_n none l r) main_v11 main_arg1
  let main_v13 : FVec F S1x1x64 .f32 := broadcastInDim S1x1x64 ![2] bcast_S64_S1x1x64_2 main_arg2
  let main_v14 : FVec F S8x8192x64 .f32 := broadcastInDim S8x8192x64 ![0, 1, 2] bcast_S1x1x64_S8x8192x64_0_1_2 main_v13
  let main_v15 : FVec F S8x8192x64 .f32 := addf main_v12 main_v14
  let main_v16 : FVec F S8x8192x64 .f32 := fn_relu (F := F) main_v15
  let main_v17 : FVec F S8x8192x64 .f32 := (fun l r => Host.dotGeneral dot_S8x8192x64_S64x64_S8x8192x64_2_0_01_1_n_n none l r) main_v16 main_arg3
  let main_v18 : FVec F S1x1x64 .f32 := broadcastInDim S1x1x64 ![2] bcast_S64_S1x1x64_2 main_arg4
  let main_v19 : FVec F S8x8192x64 .f32 := broadcastInDim S8x8192x64 ![0, 1, 2] bcast_S1x1x64_S8x8192x64_0_1_2 main_v18
  let main_v20 : FVec F S8x8192x64 .f32 := addf main_v17 main_v19
  let main_v21 : FVec F S8x8192x64 .f32 := fn_relu (F := F) main_v20
  let main_cst : FVec F S_ .f32 := constant S_ .f32 0x00000000#32
  fn_part1 (F := F) main_arg0 main_arg5 main_arg6 main_arg7 main_arg8 main_arg9 main_arg10 main_arg11 main_arg12 main_v10 main_v21 main_cst
-- ==== Kernel.lean ====
abbrev S8x8192x3 : Shape := ⟨3, ![8, 8192, 3]⟩
abbrev S19x64 : Shape := ⟨2, ![19, 64]⟩
abbrev S64 : Shape := ⟨1, ![64]⟩
abbrev S64x64 : Shape := ⟨2, ![64, 64]⟩
abbrev S83x64 : Shape := ⟨2, ![83, 64]⟩
abbrev S64x512 : Shape := ⟨2, ![64, 512]⟩
abbrev S512 : Shape := ⟨1, ![512]⟩
abbrev S592x64 : Shape := ⟨2, ![592, 64]⟩
abbrev S64x3 : Shape := ⟨2, ![64, 3]⟩
abbrev S3 : Shape := ⟨1, ![3]⟩
abbrev S8192 : Shape := ⟨1, ![8192]⟩
abbrev S8192x1 : Shape := ⟨2, ![8192, 1]⟩
abbrev S16 : Shape := ⟨1, ![16]⟩
abbrev S1x16 : Shape := ⟨2, ![1, 16]⟩
abbrev S8192x16 : Shape := ⟨2, ![8192, 16]⟩
abbrev S_ : Shape := ⟨0, ![]⟩
abbrev S16x64 : Shape := ⟨2, ![16, 64]⟩
abbrev S512x64 : Shape := ⟨2, ![512, 64]⟩
abbrev S8x64 : Shape := ⟨2, ![8, 64]⟩
abbrev S8x8192x512 : Shape := ⟨3, ![8, 8192, 512]⟩
abbrev S8x2048x3 : Shape := ⟨3, ![8, 2048, 3]⟩
abbrev S2048x16 : Shape := ⟨2, ![2048, 16]⟩
abbrev S16384x3 : Shape := ⟨2, ![16384, 3]⟩
abbrev S1x2048x16 : Shape := ⟨3, ![1, 2048, 16]⟩
abbrev S8x2048x16 : Shape := ⟨3, ![8, 2048, 16]⟩
abbrev S16384x16 : Shape := ⟨2, ![16384, 16]⟩
abbrev S16384x19 : Shape := ⟨2, ![16384, 19]⟩
abbrev S16384x64 : Shape := ⟨2, ![16384, 64]⟩
abbrev S1x64 : Shape := ⟨2, ![1, 64]⟩
abbrev S8x2048x64 : Shape := ⟨3, ![8, 2048, 64]⟩
abbrev S8x512x3 : Shape := ⟨3, ![8, 512, 3]⟩
abbrev S512x16 : Shape := ⟨2, ![512, 16]⟩
abbrev S8x512x512 : Shape := ⟨3, ![8, 512, 512]⟩
abbrev S4096x3 : Shape := ⟨2, ![4096, 3]⟩
abbrev S1x512x16 : Shape := ⟨3, ![1, 512, 16]⟩
abbrev S8x512x16 : Shape := ⟨3, ![8, 512, 16]⟩
abbrev S4096x16 : Shape := ⟨2, ![4096, 16]⟩
abbrev S8x1x64 : Shape := ⟨3, ![8, 1, 64]⟩
abbrev S8x512x64 : Shape := ⟨3, ![8, 512, 64]⟩
abbrev S4096x64 : Shape := ⟨2, ![4096, 64]⟩
abbrev S4096x83 : Shape := ⟨2, ![4096, 83]⟩
abbrev S4096x512 : Shape := ⟨2, ![4096, 512]⟩
abbrev S1x512 : Shape := ⟨2, ![1, 512]⟩
abbrev S4096 : Shape := ⟨1, ![4096]⟩
abbrev S4096x1 : Shape := ⟨2, ![4096, 1]⟩
abbrev S1x3 : Shape := ⟨2, ![1, 3]⟩

abbrev nBuf : Space → Nat
  | .hbm => 38
  | .vmem => 37
  | .smem => 0
  | _ => 0

abbrev bufTy : (tb : Table) → Fin (tcTables nBuf tb) → BufTy
  | .hbm, ⟨0, _⟩ => ⟨S8x8192x3, .f32⟩
  | .hbm, ⟨1, _⟩ => ⟨S19x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S83x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x512, .f32⟩
  | .hbm, ⟨12, _⟩ => ⟨S512, .f32⟩
  | .hbm, ⟨13, _⟩ => ⟨S592x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x3, .f32⟩
  | .hbm, ⟨18, _⟩ => ⟨S3, .f32⟩
  | .hbm, ⟨19, _⟩ => ⟨S8192, .i32⟩
  | .hbm, ⟨20, _⟩ => ⟨S8192x1, .i32⟩
  | .hbm, ⟨21, _⟩ => ⟨S16, .i32⟩
  | .hbm, ⟨22, _⟩ => ⟨S1x16, .i32⟩
  | .hbm, ⟨23, _⟩ => ⟨S8192x16, .i32⟩
  | .hbm, ⟨24, _⟩ => ⟨S8192x16, .i32⟩
  | .hbm, ⟨25, _⟩ => ⟨S8192x16, .i32⟩
  | .hbm, ⟨26, _⟩ => ⟨S_, .i32⟩
  | .hbm, ⟨27, _⟩ => ⟨S8192x16, .i32⟩
  | .hbm, ⟨28, _⟩ => ⟨S8192x16, .i32⟩
  | .hbm, ⟨29, _⟩ => ⟨S8192x16, .f32⟩
  | .hbm, ⟨30, _⟩ => ⟨S16x64, .f32⟩
  | .hbm, ⟨31, _⟩ => ⟨S64x64, .f32⟩
  | .hbm, ⟨32, _⟩ => ⟨S512x64, .f32⟩
  | .hbm, ⟨33, _⟩ => ⟨S8x64, .f32⟩
  | .hbm, ⟨34, _⟩ => ⟨S8x64, .f32⟩
  | .hbm, ⟨35, _⟩ => ⟨S8x64, .f32⟩
  | .hbm, ⟨36, _⟩ => ⟨S8x8192x3, .f32⟩
  | .hbm, ⟨37, _⟩ => ⟨S8x8192x512, .f32⟩
  | .local _ .vmem, ⟨0, _⟩ => ⟨S8x2048x3, .f32⟩
  | .local _ .vmem, ⟨1, _⟩ => ⟨S8x2048x3, .f32⟩
  | .local _ .vmem, ⟨2, _⟩ => ⟨S2048x16, .f32⟩
  | .local _ .vmem, ⟨3, _⟩ => ⟨S2048x16, .f32⟩
  | .local _ .vmem, ⟨4, _⟩ => ⟨S19x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S8x64, .f32⟩
  | .local _ .vmem, ⟨13, _⟩ => ⟨S8x64, .f32⟩
  | .local _ .vmem, ⟨14, _⟩ => ⟨S8x64, .f32⟩
  | .local _ .vmem, ⟨15, _⟩ => ⟨S8x512x3, .f32⟩
  | .local _ .vmem, ⟨16, _⟩ => ⟨S8x512x3, .f32⟩
  | .local _ .vmem, ⟨17, _⟩ => ⟨S512x16, .f32⟩
  | .local _ .vmem, ⟨18, _⟩ => ⟨S512x16, .f32⟩
  | .local _ .vmem, ⟨19, _⟩ => ⟨S8x64, .f32⟩
  | .local _ .vmem, ⟨20, _⟩ => ⟨S8x64, .f32⟩
  | .local _ .vmem, ⟨21, _⟩ => ⟨S83x64, .f32⟩
  | .local _ .vmem, ⟨22, _⟩ => ⟨S64, .f32⟩
  | .local _ .vmem, ⟨23, _⟩ => ⟨S64x64, .f32⟩
  | .local _ .vmem, ⟨24, _⟩ => ⟨S64, .f32⟩
  | .local _ .vmem, ⟨25, _⟩ => ⟨S64x512, .f32⟩
  | .local _ .vmem, ⟨26, _⟩ => ⟨S512, .f32⟩
  | .local _ .vmem, ⟨27, _⟩ => ⟨S16x64, .f32⟩
  | .local _ .vmem, ⟨28, _⟩ => ⟨S512x64, .f32⟩
  | .local _ .vmem, ⟨29, _⟩ => ⟨S64x64, .f32⟩
  | .local _ .vmem, ⟨30, _⟩ => ⟨S64, .f32⟩
  | .local _ .vmem, ⟨31, _⟩ => ⟨S64x3, .f32⟩
  | .local _ .vmem, ⟨32, _⟩ => ⟨S3, .f32⟩
  | .local _ .vmem, ⟨33, _⟩ => ⟨S8x512x3, .f32⟩
  | .local _ .vmem, ⟨34, _⟩ => ⟨S8x512x3, .f32⟩
  | .local _ .vmem, ⟨35, _⟩ => ⟨S8x512x512, .f32⟩
  | .local _ .vmem, ⟨36, _⟩ => ⟨S8x512x512, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_c : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13_0 : Ref sig .tc := ⟨.hbm, 33, rfl⟩
abbrev main_call0_v13_1 : Ref sig .tc := ⟨.hbm, 34, rfl⟩
abbrev main_call0_v13_2 : Ref sig .tc := ⟨.hbm, 35, rfl⟩
abbrev main_v0_0 : Ref sig .tc := ⟨.hbm, 36, rfl⟩
abbrev main_v0_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg14_0 : Ref sig .tc := ⟨.vmem, 31, rfl⟩
abbrev cc1_stg15_0 : Ref sig .tc := ⟨.vmem, 32, rfl⟩
abbrev cc1_stg16_0 : Ref sig .tc := ⟨.vmem, 33, rfl⟩
abbrev cc1_stg16_1 : Ref sig .tc := ⟨.vmem, 34, rfl⟩
abbrev cc1_stg17_0 : Ref sig .tc := ⟨.vmem, 35, rfl⟩
abbrev cc1_stg17_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem14_0 : DmaSem sig := 31
abbrev cc1_sem15_0 : DmaSem sig := 32
abbrev cc1_sem16_0 : DmaSem sig := 33
abbrev cc1_sem16_1 : DmaSem sig := 34
abbrev cc1_sem17_0 : DmaSem sig := 35
abbrev cc1_sem17_1 : DmaSem sig := 36

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v34 : BitVec 1 := Scalar.cmpi .eq arg0 c3_i32
  let v35 : BitVec 32 := Scalar.extui v34
  let c0_i32_19 : BitVec 32 := 0#32
  let v36 : BitVec 1 := Scalar.cmpi .ne v35 c0_i32_19
  v36

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S19x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S83x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S16x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S64x3 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S3 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S8x512x3 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S8x512x512 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]
-- ==== ReferenceIdeal.lean ====
abbrev S8x8192x3 : Shape := ⟨3, ![8, 8192, 3]⟩
abbrev S19x64 : Shape := ⟨2, ![19, 64]⟩
abbrev S64 : Shape := ⟨1, ![64]⟩
abbrev S64x64 : Shape := ⟨2, ![64, 64]⟩
abbrev S83x64 : Shape := ⟨2, ![83, 64]⟩
abbrev S64x512 : Shape := ⟨2, ![64, 512]⟩
abbrev S512 : Shape := ⟨1, ![512]⟩
abbrev S592x64 : Shape := ⟨2, ![592, 64]⟩
abbrev S64x3 : Shape := ⟨2, ![64, 3]⟩
abbrev S3 : Shape := ⟨1, ![3]⟩
abbrev S8192 : Shape := ⟨1, ![8192]⟩
abbrev S8192x1 : Shape := ⟨2, ![8192, 1]⟩
abbrev S16 : Shape := ⟨1, ![16]⟩
abbrev S1x16 : Shape := ⟨2, ![1, 16]⟩
abbrev S8192x16 : Shape := ⟨2, ![8192, 16]⟩
abbrev S_ : Shape := ⟨0, ![]⟩
abbrev S8x8192x16 : Shape := ⟨3, ![8, 8192, 16]⟩
abbrev S8x8192x19 : Shape := ⟨3, ![8, 8192, 19]⟩
abbrev S8x8192x64 : Shape := ⟨3, ![8, 8192, 64]⟩
abbrev S1x1x64 : Shape := ⟨3, ![1, 1, 64]⟩
abbrev S8x64 : Shape := ⟨2, ![8, 64]⟩
abbrev S1x64 : Shape := ⟨2, ![1, 64]⟩
abbrev S8x1x64 : Shape := ⟨3, ![8, 1, 64]⟩
abbrev S8x8192x83 : Shape := ⟨3, ![8, 8192, 83]⟩
abbrev S8x8192x512 : Shape := ⟨3, ![8, 8192, 512]⟩
abbrev S1x1x512 : Shape := ⟨3, ![1, 1, 512]⟩
abbrev S8x8192 : Shape := ⟨2, ![8, 8192]⟩
abbrev S8x8192x1 : Shape := ⟨3, ![8, 8192, 1]⟩
abbrev S8x8192x592 : Shape := ⟨3, ![8, 8192, 592]⟩
abbrev S1x1x3 : Shape := ⟨3, ![1, 1, 3]⟩

abbrev nBuf : Space → Nat
  | .hbm => 134
  | .vmem => 0
  | .smem => 0
  | _ => 0

abbrev hbmTy0_0 (i : Nat) : BufTy := match i % 128 with
  | 0 => ⟨S8x8192x3, .f32⟩
  | 1 => ⟨S19x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S83x64, .f32⟩
  | 8 => ⟨S64, .f32⟩
  | 9 => ⟨S64x64, .f32⟩
  | 10 => ⟨S64, .f32⟩
  | 11 => ⟨S64x512, .f32⟩
  | 12 => ⟨S512, .f32⟩
  | 13 => ⟨S592x64, .f32⟩
  | 14 => ⟨S64, .f32⟩
  | 15 => ⟨S64x64, .f32⟩
  | 16 => ⟨S64, .f32⟩
  | 17 => ⟨S64x3, .f32⟩
  | 18 => ⟨S3, .f32⟩
  | 19 => ⟨S8192, .i32⟩
  | 20 => ⟨S8192x1, .i32⟩
  | 21 => ⟨S16, .i32⟩
  | 22 => ⟨S1x16, .i32⟩
  | 23 => ⟨S8192x16, .i32⟩
  | 24 => ⟨S8192x16, .i32⟩
  | 25 => ⟨S8192x16, .i32⟩
  | 26 => ⟨S_, .i32⟩
  | 27 => ⟨S8192x16, .i32⟩
  | 28 => ⟨S8192x16, .i32⟩
  | 29 => ⟨S8192x16, .f32⟩
  | 30 => ⟨S8x8192x16, .f32⟩
  | 31 => ⟨S8x8192x19, .f32⟩
  | 32 => ⟨S8x8192x64, .f32⟩
  | 33 => ⟨S1x1x64, .f32⟩
  | 34 => ⟨S8x8192x64, .f32⟩
  | 35 => ⟨S8x8192x64, .f32⟩
  | 36 => ⟨S_, .f32⟩
  | 37 => ⟨S8x8192x64, .f32⟩
  | 38 => ⟨S8x8192x64, .f32⟩
  | 39 => ⟨S8x8192x64, .f32⟩
  | 40 => ⟨S1x1x64, .f32⟩
  | 41 => ⟨S8x8192x64, .f32⟩
  | 42 => ⟨S8x8192x64, .f32⟩
  | 43 => ⟨S_, .f32⟩
  | 44 => ⟨S8x8192x64, .f32⟩
  | 45 => ⟨S8x8192x64, .f32⟩
  | 46 => ⟨S_, .f32⟩
  | 47 => ⟨S8x64, .f32⟩
  | 48 => ⟨S_, .f32⟩
  | 49 => ⟨S8x64, .f32⟩
  | 50 => ⟨S8x64, .f32⟩
  | 51 => ⟨S8x64, .f32⟩
  | 52 => ⟨S1x64, .f32⟩
  | 53 => ⟨S8x64, .f32⟩
  | 54 => ⟨S8x64, .f32⟩
  | 55 => ⟨S8x1x64, .f32⟩
  | 56 => ⟨S8x8192x64, .f32⟩
  | 57 => ⟨S8x8192x83, .f32⟩
  | 58 => ⟨S8x8192x64, .f32⟩
  | 59 => ⟨S1x1x64, .f32⟩
  | 60 => ⟨S8x8192x64, .f32⟩
  | 61 => ⟨S8x8192x64, .f32⟩
  | 62 => ⟨S_, .f32⟩
  | 63 => ⟨S8x8192x64, .f32⟩
  | 64 => ⟨S8x8192x64, .f32⟩
  | 65 => ⟨S8x8192x64, .f32⟩
  | 66 => ⟨S1x1x64, .f32⟩
  | 67 => ⟨S8x8192x64, .f32⟩
  | 68 => ⟨S8x8192x64, .f32⟩
  | 69 => ⟨S_, .f32⟩
  | 70 => ⟨S8x8192x64, .f32⟩
  | 71 => ⟨S8x8192x64, .f32⟩
  | 72 => ⟨S8x8192x512, .f32⟩
  | 73 => ⟨S1x1x512, .f32⟩
  | 74 => ⟨S8x8192x512, .f32⟩
  | 75 => ⟨S8x8192x512, .f32⟩
  | 76 => ⟨S_, .f32⟩
  | 77 => ⟨S8x8192, .f32⟩
  | 78 => ⟨S_, .f32⟩
  | 79 => ⟨S8x8192, .f32⟩
  | 80 => ⟨S8x8192, .f32⟩
  | 81 => ⟨S8x8192x1, .f32⟩
  | 82 => ⟨S8x8192x512, .f32⟩
  | 83 => ⟨S8x8192x512, .f32⟩
  | 84 => ⟨S8x8192x512, .f32⟩
  | 85 => ⟨S_, .f32⟩
  | 86 => ⟨S8x8192, .f32⟩
  | 87 => ⟨S8x8192x1, .f32⟩
  | 88 => ⟨S8x8192x512, .f32⟩
  | 89 => ⟨S8x8192x512, .f32⟩
  | 90 => ⟨S8x8192x512, .i32⟩
  | 91 => ⟨S_, .f32⟩
  | 92 => ⟨S_, .i32⟩
  | 93 => ⟨S8x8192, .f32⟩
  | 94 => ⟨S8x8192, .i32⟩
  | 95 => ⟨S8x8192x1, .i32⟩
  | 96 => ⟨S1x1x512, .i32⟩
  | 97 => ⟨S8x8192x512, .i32⟩
  | 98 => ⟨S8x8192x512, .i32⟩
  | 99 => ⟨S8x8192x512, .i1⟩
  | 100 => ⟨S8x8192x512, .f32⟩
  | 101 => ⟨S8x8192x512, .f32⟩
  | 102 => ⟨S8x8192x512, .f32⟩
  | 103 => ⟨S8192, .i32⟩
  | 104 => ⟨S8192x1, .i32⟩
  | 105 => ⟨S16, .i32⟩
  | 106 => ⟨S1x16, .i32⟩
  | 107 => ⟨S8192x16, .i32⟩
  | 108 => ⟨S8192x16, .i32⟩
  | 109 => ⟨S8192x16, .i32⟩
  | 110 => ⟨S_, .i32⟩
  | 111 => ⟨S8192x16, .i32⟩
  | 112 => ⟨S8192x16, .i32⟩
  | 113 => ⟨S8192x16, .f32⟩
  | 114 => ⟨S8x8192x16, .f32⟩
  | 115 => ⟨S8x8192x592, .f32⟩
  | 116 => ⟨S8x8192x64, .f32⟩
  | 117 => ⟨S1x1x64, .f32⟩
  | 118 => ⟨S8x8192x64, .f32⟩
  | 119 => ⟨S8x8192x64, .f32⟩
  | 120 => ⟨S_, .f32⟩
  | 121 => ⟨S8x8192x64, .f32⟩
  | 122 => ⟨S8x8192x64, .f32⟩
  | 123 => ⟨S8x8192x64, .f32⟩
  | 124 => ⟨S1x1x64, .f32⟩
  | 125 => ⟨S8x8192x64, .f32⟩
  | 126 => ⟨S8x8192x64, .f32⟩
  | 127 => ⟨S_, .f32⟩
  | _ => ⟨S8x8192x3, .f32⟩

abbrev hbmTy0_1 (i : Nat) : BufTy := match i % 128 with
  | 0 => ⟨S8x8192x64, .f32⟩
  | 1 => ⟨S8x8192x64, .f32⟩
  | 2 => ⟨S8x8192x3, .f32⟩
  | 3 => ⟨S1x1x3, .f32⟩
  | 4 => ⟨S8x8192x3, .f32⟩
  | 5 => ⟨S8x8192x3, .f32⟩
  | _ => ⟨S8x8192x3, .f32⟩

abbrev hbmTy (i : Nat) : BufTy := match i / 128 with
  | 0 => hbmTy0_0 i
  | 1 => hbmTy0_1 i
  | _ => ⟨S8x8192x3, .f32⟩

abbrev bufTy : (tb : Table) → Fin (tcTables nBuf tb) → BufTy
  | .hbm, ⟨i, _⟩ => hbmTy i
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_cst : Ref sig .tc := ⟨.hbm, 36, rfl⟩
abbrev main_call0_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_cst : Ref sig .tc := ⟨.hbm, 43, rfl⟩
abbrev main_call1_v0 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_cst_0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call2_cst : Ref sig .tc := ⟨.hbm, 62, rfl⟩
abbrev main_call2_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call3_cst : Ref sig .tc := ⟨.hbm, 69, rfl⟩
abbrev main_call3_v0 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_1 : Ref sig .tc := ⟨.hbm, 76, rfl⟩
abbrev main_v46 : Ref sig .tc := ⟨.hbm, 77, rfl⟩
abbrev main_cst_2 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_3 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call4_v0 : Ref sig .tc := ⟨.hbm, 90, rfl⟩
abbrev main_call4_cst : Ref sig .tc := ⟨.hbm, 91, rfl⟩
abbrev main_call4_c : Ref sig .tc := ⟨.hbm, 92, rfl⟩
abbrev main_call4_v1_0 : Ref sig .tc := ⟨.hbm, 93, rfl⟩
abbrev main_v57 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_c_4 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_call6_cst : Ref sig .tc := ⟨.hbm, 120, rfl⟩
abbrev main_call6_v0 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_call7_cst : Ref sig .tc := ⟨.hbm, 127, rfl⟩
abbrev main_call7_v0 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩

abbrev nD : Nat := 1
abbrev τ : Topo := Topo.v7x

variable {F : FTy → Type} [FloatOps F]
-- ==== Proof.RefRun.lean ====
/- The reference's @main as nine groups of host operations, and its run read at the end of the line. -/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The operation writes one of the listed buffers and no other. -/
def WritesIn (l : List (Ref sig .tc)) (op : HloOp τ sig (Elt F)) : Prop :=
  ∃ b, b ∈ l ∧ op.writes = {Proc.devRef .tc b}

/-- A buffer outside the list is untouched by a line of operations that each write a buffer of the list. -/
theorem keep_of_writes {l : List (Ref sig .tc)} {ops : List (HloOp τ sig (Elt F))} (hw : ops.Forall (WritesIn l))
    (V : Valuation τ sig (Elt F)) {b : Ref sig .tc} (h : b ∉ l) :
    after ops V (Proc.devRef .tc b) = V (Proc.devRef .tc b) := by
  refine after_of_forall_not_mem ops V fun op ho hb => ?_
  obtain ⟨r, hr, he⟩ := (List.forall_iff_forall_mem.mp hw) op ho
  rw [he, Finset.mem_singleton] at hb
  exact h (Proc.devRef_injective .tc hb ▸ hr)

/-- A line run after another is the two run as one. -/
theorem after_append (a b : List (HloOp τ sig (Elt F))) (V : Valuation τ sig (Elt F)) :
    after (a ++ b) V = after b (after a V) := by
  induction a generalizing V with
  | nil => rfl
  | cons op a ih => exact ih (op.result V)

/-- The operations that make the position bits. -/
abbrev posOps : List (HloOp τ sig (Elt F)) :=
  [ nullary main_v0 (iotaInDim S8192 32 0),
    unary main_v0 main_v1 (broadcastInDim S8192x1 ![0] bcast_S8192_S8192x1_0 : (⟨S8192, .i32⟩ : BufTy).Contents (Elt F) → (⟨S8192x1, .i32⟩ : BufTy).Contents (Elt F)),
    nullary main_v2 (iotaInDim S16 32 0),
    unary main_v2 main_v3 (broadcastInDim S1x16 ![1] bcast_S16_S1x16_1 : (⟨S16, .i32⟩ : BufTy).Contents (Elt F) → (⟨S1x16, .i32⟩ : BufTy).Contents (Elt F)),
    unary main_v1 main_v4 (broadcastInDim S8192x16 ![0, 1] bcast_S8192x1_S8192x16_0_1 : (⟨S8192x1, .i32⟩ : BufTy).Contents (Elt F) → (⟨S8192x16, .i32⟩ : BufTy).Contents (Elt F)),
    unary main_v3 main_v5 (broadcastInDim S8192x16 ![0, 1] bcast_S1x16_S8192x16_0_1 : (⟨S1x16, .i32⟩ : BufTy).Contents (Elt F) → (⟨S8192x16, .i32⟩ : BufTy).Contents (Elt F)),
    binary main_v4 main_v5 main_v6 (Host.shrsi : (⟨S8192x16, .i32⟩ : BufTy).Contents (Elt F) → (⟨S8192x16, .i32⟩ : BufTy).Contents (Elt F) → (⟨S8192x16, .i32⟩ : BufTy).Contents (Elt F)),
    nullary main_c (constantI S_ 32 1#32),
    unary main_c main_v7 (broadcastInDim S8192x16 ![] bcast_S_S8192x16 : (⟨S_, .i32⟩ : BufTy).Contents (Elt F) → (⟨S8192x16, .i32⟩ : BufTy).Contents (Elt F)),
    binary main_v6 main_v7 main_v8 (andi : (⟨S8192x16, .i32⟩ : BufTy).Contents (Elt F) → (⟨S8192x16, .i32⟩ : BufTy).Contents (Elt F) → (⟨S8192x16, .i32⟩ : BufTy).Contents (Elt F)),
    unary main_v8 main_v9 (sitofp .f32 : (⟨S8192x16, .i32⟩ : BufTy).Contents (Elt F) → (⟨S8192x16, .f32⟩ : BufTy).Contents (Elt F)),
    unary main_v9 main_v10 (broadcastInDim S8x8192x16 ![1, 2] bcast_S8192x16_S8x8192x16_1_2 : (⟨S8192x16, .f32⟩ : BufTy).Contents (Elt F) → (⟨S8x8192x16, .f32⟩ : BufTy).Contents (Elt F)) ]

/-- The two hidden layers of the group encoder. -/
abbrev groupOps : List (HloOp τ sig (Elt F)) :=
  [ binary main_arg0 main_v10 main_v11 ((fun a b => concatenate S8x8192x19 2 [⟨S8x8192x3, a⟩, ⟨S8x8192x16, b⟩] concatenates_S8x8192x3_S8x8192x16_S8x8192x19_d2) : (⟨S8x8192x3, .f32⟩ : BufTy).Contents (Elt F) → (⟨S8x8192x16, .f32⟩ : BufTy).Contents (Elt F) → (⟨S8x8192x19, .f32⟩ : BufTy).Contents (Elt F)),
    binary main_v11 main_arg1 main_v12 ((fun l r => Host.dotGeneral dot_S8x8192x19_S19x64_S8x8192x64_2_0_01_1_n_n none l r) : (⟨S8x8192x19, .f32⟩ : BufTy).Contents (Elt F) → (⟨S19x64, .f32⟩ : BufTy).Contents (Elt F) → (⟨S8x8192x64, .f32⟩ : BufTy).Contents (Elt F)),
    unary main_arg2 main_v13 (broadcastInDim S1x1x64 ![2] bcast_S64_S1x1x64_2 : (⟨S64, .f32⟩ : BufTy).Contents (Elt F) → (⟨S1x1x64, .f32⟩ : BufTy).Contents (Elt F)),
    unary main_v13 main_v14 (broadcastInDim S8x8192x64 ![0, 1, 2] bcast_S1x1x64_S8x8192x64_0_1_2 : (⟨S1x1x64, .f32⟩ : BufTy).Contents (Elt F) → (⟨S8x8192x64, .f32⟩ : BufTy).Contents (Elt F)),
    binary main_v12 main_v14 main_v15 (addf : (⟨S8x8192x64, .f32⟩ : BufTy).Contents (Elt F) → (⟨S8x8192x64, .f32⟩ : BufTy).Contents (Elt F) → (⟨S8x8192x64, .f32⟩ : BufTy).Contents (Elt F)),
    TRef.nullary (.of (T := ⟨S_, .f32⟩) main_call0_cst) (constant S_ .f32 0x00000000#32),
    TRef.unary (.of (T := ⟨S_, .f32⟩) main_call0_cst) (.of (T := ⟨S8x8192x64, .f32⟩) main_call0_v0) (broadcastInDim S8x8192x64 ![] bcast_S_S8x8192x64),
    TRef.binary (.of (T := ⟨S8x8192x64, .f32⟩) main_v15) (.of (T := ⟨S8x8192x64, .f32⟩) main_call0_v0) (.of (T := ⟨S8x8192x64, .f32⟩) main_v16) maximumf,
    binary main_v16 main_arg3 main_v17 ((fun l r => Host.dotGeneral dot_S8x8192x64_S64x64_S8x8192x64_2_0_01_1_n_n none l r) : (⟨S8x8192x64, .f32⟩ : BufTy).Contents (Elt F) → (⟨S64x64, .f32⟩ : BufTy).Contents (Elt F) → (⟨S8x8192x64, .f32⟩ : BufTy).Contents (Elt F)),
    unary main_arg4 main_v18 (broadcastInDim S1x1x64 ![2] bcast_S64_S1x1x64_2 : (⟨S64, .f32⟩ : BufTy).Contents (Elt F) → (⟨S1x1x64, .f32⟩ : BufTy).Contents (Elt F)),
    unary main_v18 main_v19 (broadcastInDim S8x8192x64 ![0, 1, 2] bcast_S1x1x64_S8x8192x64_0_1_2 : (⟨S1x1x64, .f32⟩ : BufTy).Contents (Elt F) → (⟨S8x8192x64, .f32⟩ : BufTy).Contents (Elt F)),
    binary main_v17 main_v19 main_v20 (addf : (⟨S8x8192x64, .f32⟩ : BufTy).Contents (Elt F) → (⟨S8x8192x64, .f32⟩ : BufTy).Contents (Elt F) → (⟨S8x8192x64, .f32⟩ : BufTy).Contents (Elt F)),
    TRef.nullary (.of (T := ⟨S_, .f32⟩) main_call1_cst) (constant S_ .f32 0x00000000#32),
    TRef.unary (.of (T := ⟨S_, .f32⟩) main_call1_cst) (.of (T := ⟨S8x8192x64, .f32⟩) main_call1_v0) (broadcastInDim S8x8192x64 ![] bcast_S_S8x8192x64),
    TRef.binary (.of (T := ⟨S8x8192x64, .f32⟩) main_v20) (.of (T := ⟨S8x8192x64, .f32⟩) main_call1_v0) (.of (T := ⟨S8x8192x64, .f32⟩) main_v21) maximumf ]

/-- The mean over the points and the group latent. -/
abbrev latentOps : List (HloOp τ sig (Elt F)) :=
  [ nullary main_cst (constant S_ .f32 0x00000000#32),
    binary main_v21 main_cst main_v22 ((fun x v => Host.reduceAdd x v reducesTo_S8x8192x64_S8x64_d1 h_S_) : (⟨S8x8192x64, .f32⟩ : BufTy).Contents (Elt F) → (⟨S_, .f32⟩ : BufTy).Contents (Elt F) → (⟨S8x64, .f32⟩ : BufTy).Contents (Elt F)),
    nullary main_cst_0 (constant S_ .f32 0x46000000#32),
    unary main_cst_0 main_v23 (broadcastInDim S8x64 ![] bcast_S_S8x64 : (⟨S_, .f32⟩ : BufTy).Contents (Elt F) → (⟨S8x64, .f32⟩ : BufTy).Contents (Elt F)),
    binary main_v22 main_v23 main_v24 (Host.divf : (⟨S8x64, .f32⟩ : BufTy).Contents (Elt F) → (⟨S8x64, .f32⟩ : BufTy).Contents (Elt F) → (⟨S8x64, .f32⟩ : BufTy).Contents (Elt F)),
    binary main_v24 main_arg5 main_v25 ((fun l r => Host.dotGeneral dot_S8x64_S64x64_S8x64_1_0_0_1_n_n none l r) : (⟨S8x64, .f32⟩ : BufTy).Contents (Elt F) → (⟨S64x64, .f32⟩ : BufTy).Contents (Elt F) → (⟨S8x64, .f32⟩ : BufTy).Contents (Elt F)),
    unary main_arg6 main_v26 (broadcastInDim S1x64 ![1] bcast_S64_S1x64_1 : (⟨S64, .f32⟩ : BufTy).Contents (Elt F) → (⟨S1x64, .f32⟩ : BufTy).Contents (Elt F)),
    unary main_v26 main_v27 (broadcastInDim S8x64 ![0, 1] bcast_S1x64_S8x64_0_1 : (⟨S1x64, .f32⟩ : BufTy).Contents (Elt F) → (⟨S8x64, .f32⟩ : BufTy).Contents (Elt F)),
    binary main_v25 main_v27 main_v28 (addf : (⟨S8x64, .f32⟩ : BufTy).Contents (Elt F) → (⟨S8x64, .f32⟩ : BufTy).Contents (Elt F) → (⟨S8x64, .f32⟩ : BufTy).Contents (Elt F)),
    unary main_v28 main_v29 (broadcastInDim S8x1x64 ![0, 2] bcast_S8x64_S8x1x64_0_2 : (⟨S8x64, .f32⟩ : BufTy).Contents (Elt F) → (⟨S8x1x64, .f32⟩ : BufTy).Contents (Elt F)),
    unary main_v29 main_v30 (broadcastInDim S8x8192x64 ![0, 1, 2] bcast_S8x1x64_S8x8192x64_0_1_2 : (⟨S8x1x64, .f32⟩ : BufTy).Contents (Elt F) → (⟨S8x8192x64, .f32⟩ : BufTy).Contents (Elt F)) ]

/-- The instance encoder up to its logits. -/
abbrev logitOps : List (HloOp τ sig (Elt F)) :=
  [ nary ![main_arg0, main_v10, main_v30] main_v31 (fun u => (concatenate S8x8192x83 2 [⟨S8x8192x3, (u 0 : (⟨S8x8192x3, .f32⟩ : BufTy).Contents (Elt F))⟩, ⟨S8x8192x16, (u 1 : (⟨S8x8192x16, .f32⟩ : BufTy).Contents (Elt F))⟩, ⟨S8x8192x64, (u 2 : (⟨S8x8192x64, .f32⟩ : BufTy).Contents (Elt F))⟩] concatenates_S8x8192x3_S8x8192x16_S8x8192x64_S8x8192x83_d2 : (⟨S8x8192x83, .f32⟩ : BufTy).Contents (Elt F))),
    binary main_v31 main_arg7 main_v32 ((fun l r => Host.dotGeneral dot_S8x8192x83_S83x64_S8x8192x64_2_0_01_1_n_n none l r) : (⟨S8x8192x83, .f32⟩ : BufTy).Contents (Elt F) → (⟨S83x64, .f32⟩ : BufTy).Contents (Elt F) → (⟨S8x8192x64, .f32⟩ : BufTy).Contents (Elt F)),
    unary main_arg8 main_v33 (broadcastInDim S1x1x64 ![2] bcast_S64_S1x1x64_2 : (⟨S64, .f32⟩ : BufTy).Contents (Elt F) → (⟨S1x1x64, .f32⟩ : BufTy).Contents (Elt F)),
    unary main_v33 main_v34 (broadcastInDim S8x8192x64 ![0, 1, 2] bcast_S1x1x64_S8x8192x64_0_1_2 : (⟨S1x1x64, .f32⟩ : BufTy).Contents (Elt F) → (⟨S8x8192x64, .f32⟩ : BufTy).Contents (Elt F)),
    binary main_v32 main_v34 main_v35 (addf : (⟨S8x8192x64, .f32⟩ : BufTy).Contents (Elt F) → (⟨S8x8192x64, .f32⟩ : BufTy).Contents (Elt F) → (⟨S8x8192x64, .f32⟩ : BufTy).Contents (Elt F)),
    TRef.nullary (.of (T := ⟨S_, .f32⟩) main_call2_cst) (constant S_ .f32 0x00000000#32),
    TRef.unary (.of (T := ⟨S_, .f32⟩) main_call2_cst) (.of (T := ⟨S8x8192x64, .f32⟩) main_call2_v0) (broadcastInDim S8x8192x64 ![] bcast_S_S8x8192x64),
    TRef.binary (.of (T := ⟨S8x8192x64, .f32⟩) main_v35) (.of (T := ⟨S8x8192x64, .f32⟩) main_call2_v0) (.of (T := ⟨S8x8192x64, .f32⟩) main_v36) maximumf,
    binary main_v36 main_arg9 main_v37 ((fun l r => Host.dotGeneral dot_S8x8192x64_S64x64_S8x8192x64_2_0_01_1_n_n none l r) : (⟨S8x8192x64, .f32⟩ : BufTy).Contents (Elt F) → (⟨S64x64, .f32⟩ : BufTy).Contents (Elt F) → (⟨S8x8192x64, .f32⟩ : BufTy).Contents (Elt F)),
    unary main_arg10 main_v38 (broadcastInDim S1x1x64 ![2] bcast_S64_S1x1x64_2 : (⟨S64, .f32⟩ : BufTy).Contents (Elt F) → (⟨S1x1x64, .f32⟩ : BufTy).Contents (Elt F)),
    unary main_v38 main_v39 (broadcastInDim S8x8192x64 ![0, 1, 2] bcast_S1x1x64_S8x8192x64_0_1_2 : (⟨S1x1x64, .f32⟩ : BufTy).Contents (Elt F) → (⟨S8x8192x64, .f32⟩ : BufTy).Contents (Elt F)),
    binary main_v37 main_v39 main_v40 (addf : (⟨S8x8192x64, .f32⟩ : BufTy).Contents (Elt F) → (⟨S8x8192x64, .f32⟩ : BufTy).Contents (Elt F) → (⟨S8x8192x64, .f32⟩ : BufTy).Contents (Elt F)),
    TRef.nullary (.of (T := ⟨S_, .f32⟩) main_call3_cst) (constant S_ .f32 0x00000000#32),
    TRef.unary (.of (T := ⟨S_, .f32⟩) main_call3_cst) (.of (T := ⟨S8x8192x64, .f32⟩) main_call3_v0) (broadcastInDim S8x8192x64 ![] bcast_S_S8x8192x64),
    TRef.binary (.of (T := ⟨S8x8192x64, .f32⟩) main_v40) (.of (T := ⟨S8x8192x64, .f32⟩) main_call3_v0) (.of (T := ⟨S8x8192x64, .f32⟩) main_v41) maximumf,
    binary main_v41 main_arg11 main_v42 ((fun l r => Host.dotGeneral dot_S8x8192x64_S64x512_S8x8192x512_2_0_01_1_n_n none l r) : (⟨S8x8192x64, .f32⟩ : BufTy).Contents (Elt F) → (⟨S64x512, .f32⟩ : BufTy).Contents (Elt F) → (⟨S8x8192x512, .f32⟩ : BufTy).Contents (Elt F)),
    unary main_arg12 main_v43 (broadcastInDim S1x1x512 ![2] bcast_S512_S1x1x512_2 : (⟨S512, .f32⟩ : BufTy).Contents (Elt F) → (⟨S1x1x512, .f32⟩ : BufTy).Contents (Elt F)),
    unary main_v43 main_v44 (broadcastInDim S8x8192x512 ![0, 1, 2] bcast_S1x1x512_S8x8192x512_0_1_2 : (⟨S1x1x512, .f32⟩ : BufTy).Contents (Elt F) → (⟨S8x8192x512, .f32⟩ : BufTy).Contents (Elt F)),
    binary main_v42 main_v44 main_v45 (addf : (⟨S8x8192x512, .f32⟩ : BufTy).Contents (Elt F) → (⟨S8x8192x512, .f32⟩ : BufTy).Contents (Elt F) → (⟨S8x8192x512, .f32⟩ : BufTy).Contents (Elt F)) ]

/-- The softmax of the logits. -/
abbrev softmaxOps : List (HloOp τ sig (Elt F)) :=
  [ nullary main_cst_1 (constant S_ .f32 0xFF800000#32),
    binary main_v45 main_cst_1 main_v46 ((fun x v => Host.reduce FloatOps.maximumf x v reducesTo_S8x8192x512_S8x8192_d2 h_S_) : (⟨S8x8192x512, .f32⟩ : BufTy).Contents (Elt F) → (⟨S_, .f32⟩ : BufTy).Contents (Elt F) → (⟨S8x8192, .f32⟩ : BufTy).Contents (Elt F)),
    nullary main_cst_2 (constant S_ .f32 0xFF800000#32),
    unary main_cst_2 main_v47 (broadcastInDim S8x8192 ![] bcast_S_S8x8192 : (⟨S_, .f32⟩ : BufTy).Contents (Elt F) → (⟨S8x8192, .f32⟩ : BufTy).Contents (Elt F)),
    binary main_v47 main_v46 main_v48 (maximumf : (⟨S8x8192, .f32⟩ : BufTy).Contents (Elt F) → (⟨S8x8192, .f32⟩ : BufTy).Contents (Elt F) → (⟨S8x8192, .f32⟩ : BufTy).Contents (Elt F)),
    unary main_v48 main_v49 (broadcastInDim S8x8192x1 ![0, 1] bcast_S8x8192_S8x8192x1_0_1 : (⟨S8x8192, .f32⟩ : BufTy).Contents (Elt F) → (⟨S8x8192x1, .f32⟩ : BufTy).Contents (Elt F)),
    unary main_v49 main_v50 (broadcastInDim S8x8192x512 ![0, 1, 2] bcast_S8x8192x1_S8x8192x512_0_1_2 : (⟨S8x8192x1, .f32⟩ : BufTy).Contents (Elt F) → (⟨S8x8192x512, .f32⟩ : BufTy).Contents (Elt F)),
    binary main_v45 main_v50 main_v51 (subf : (⟨S8x8192x512, .f32⟩ : BufTy).Contents (Elt F) → (⟨S8x8192x512, .f32⟩ : BufTy).Contents (Elt F) → (⟨S8x8192x512, .f32⟩ : BufTy).Contents (Elt F)),
    unary main_v51 main_v52 (Host.exp : (⟨S8x8192x512, .f32⟩ : BufTy).Contents (Elt F) → (⟨S8x8192x512, .f32⟩ : BufTy).Contents (Elt F)),
    nullary main_cst_3 (constant S_ .f32 0x00000000#32),
    binary main_v52 main_cst_3 main_v53 ((fun x v => Host.reduceAdd x v reducesTo_S8x8192x512_S8x8192_d2 h_S_) : (⟨S8x8192x512, .f32⟩ : BufTy).Contents (Elt F) → (⟨S_, .f32⟩ : BufTy).Contents (Elt F) → (⟨S8x8192, .f32⟩ : BufTy).Contents (Elt F)),
    unary main_v53 main_v54 (broadcastInDim S8x8192x1 ![0, 1] bcast_S8x8192_S8x8192x1_0_1 : (⟨S8x8192, .f32⟩ : BufTy).Contents (Elt F) → (⟨S8x8192x1, .f32⟩ : BufTy).Contents (Elt F)),
    unary main_v54 main_v55 (broadcastInDim S8x8192x512 ![0, 1, 2] bcast_S8x8192x1_S8x8192x512_0_1_2 : (⟨S8x8192x1, .f32⟩ : BufTy).Contents (Elt F) → (⟨S8x8192x512, .f32⟩ : BufTy).Contents (Elt F)),
    binary main_v52 main_v55 main_v56 (Host.divf : (⟨S8x8192x512, .f32⟩ : BufTy).Contents (Elt F) → (⟨S8x8192x512, .f32⟩ : BufTy).Contents (Elt F) → (⟨S8x8192x512, .f32⟩ : BufTy).Contents (Elt F)) ]

/-- The argmax, its one-hot code and the straight-through sum. -/
abbrev hardOps : List (HloOp τ sig (Elt F)) :=
  [ TRef.nullary (.of (T := ⟨S8x8192x512, .i32⟩) main_call4_v0) (iotaInDim S8x8192x512 32 2),
    TRef.nullary (.of (T := ⟨S_, .f32⟩) main_call4_cst) (constant S_ .f32 0xFF800000#32),
    TRef.nullary (.of (T := ⟨S_, .i32⟩) main_call4_c) (constantI S_ 32 0#32),
    TRef.quaternary (.of (T := ⟨S8x8192x512, .f32⟩) main_v56) (.of (T := ⟨S8x8192x512, .i32⟩) main_call4_v0) (.of (T := ⟨S_, .f32⟩) main_call4_cst) (.of (T := ⟨S_, .i32⟩) main_call4_c) (.of (T := ⟨S8x8192, .f32⟩) main_call4_v1_0) (fun x y u v j => (Host.argReduce reducer_argmax_f32_i32 x y u v reducesTo_S8x8192x512_S8x8192_d2 h_S_ j).1),
    TRef.quaternary (.of (T := ⟨S8x8192x512, .f32⟩) main_v56) (.of (T := ⟨S8x8192x512, .i32⟩) main_call4_v0) (.of (T := ⟨S_, .f32⟩) main_call4_cst) (.of (T := ⟨S_, .i32⟩) main_call4_c) (.of (T := ⟨S8x8192, .i32⟩) main_v57) (fun x y u v j => (Host.argReduce reducer_argmax_f32_i32 x y u v reducesTo_S8x8192x512_S8x8192_d2 h_S_ j).2),
    TRef.unary (.of (T := ⟨S8x8192, .i32⟩) main_v57) (.of (T := ⟨S8x8192x1, .i32⟩) main_call5_v0) (broadcastInDim S8x8192x1 ![0, 1] bcast_S8x8192_S8x8192x1_0_1),
    TRef.nullary (.of (T := ⟨S1x1x512, .i32⟩) main_call5_v1) (iotaInDim S1x1x512 32 2),
    TRef.unary (.of (T := ⟨S8x8192x1, .i32⟩) main_call5_v0) (.of (T := ⟨S8x8192x512, .i32⟩) main_call5_v2) (broadcastInDim S8x8192x512 ![0, 1, 2] bcast_S8x8192x1_S8x8192x512_0_1_2),
    TRef.unary (.of (T := ⟨S1x1x512, .i32⟩) main_call5_v1) (.of (T := ⟨S8x8192x512, .i32⟩) main_call5_v3) (broadcastInDim S8x8192x512 ![0, 1, 2] bcast_S1x1x512_S8x8192x512_0_1_2),
    TRef.binary (.of (T := ⟨S8x8192x512, .i32⟩) main_call5_v2) (.of (T := ⟨S8x8192x512, .i32⟩) main_call5_v3) (.of (T := ⟨S8x8192x512, .i1⟩) main_call5_v4) (cmpi .eq),
    TRef.unary (.of (T := ⟨S8x8192x512, .i1⟩) main_call5_v4) (.of (T := ⟨S8x8192x512, .f32⟩) main_v58) (uitofp .f32),
    binary main_v58 main_v56 main_v59 (subf : (⟨S8x8192x512, .f32⟩ : BufTy).Contents (Elt F) → (⟨S8x8192x512, .f32⟩ : BufTy).Contents (Elt F) → (⟨S8x8192x512, .f32⟩ : BufTy).Contents (Elt F)),
    binary main_v59 main_v56 main_v60 (addf : (⟨S8x8192x512, .f32⟩ : BufTy).Contents (Elt F) → (⟨S8x8192x512, .f32⟩ : BufTy).Contents (Elt F) → (⟨S8x8192x512, .f32⟩ : BufTy).Contents (Elt F)) ]

/-- The position bits once more, for the decoder. -/
abbrev posOps2 : List (HloOp τ sig (Elt F)) :=
  [ nullary main_v61 (iotaInDim S8192 32 0),
    unary main_v61 main_v62 (broadcastInDim S8192x1 ![0] bcast_S8192_S8192x1_0 : (⟨S8192, .i32⟩ : BufTy).Contents (Elt F) → (⟨S8192x1, .i32⟩ : BufTy).Contents (Elt F)),
    nullary main_v63 (iotaInDim S16 32 0),
    unary main_v63 main_v64 (broadcastInDim S1x16 ![1] bcast_S16_S1x16_1 : (⟨S16, .i32⟩ : BufTy).Contents (Elt F) → (⟨S1x16, .i32⟩ : BufTy).Contents (Elt F)),
    unary main_v62 main_v65 (broadcastInDim S8192x16 ![0, 1] bcast_S8192x1_S8192x16_0_1 : (⟨S8192x1, .i32⟩ : BufTy).Contents (Elt F) → (⟨S8192x16, .i32⟩ : BufTy).Contents (Elt F)),
    unary main_v64 main_v66 (broadcastInDim S8192x16 ![0, 1] bcast_S1x16_S8192x16_0_1 : (⟨S1x16, .i32⟩ : BufTy).Contents (Elt F) → (⟨S8192x16, .i32⟩ : BufTy).Contents (Elt F)),
    binary main_v65 main_v66 main_v67 (Host.shrsi : (⟨S8192x16, .i32⟩ : BufTy).Contents (Elt F) → (⟨S8192x16, .i32⟩ : BufTy).Contents (Elt F) → (⟨S8192x16, .i32⟩ : BufTy).Contents (Elt F)),
    nullary main_c_4 (constantI S_ 32 1#32),
    unary main_c_4 main_v68 (broadcastInDim S8192x16 ![] bcast_S_S8192x16 : (⟨S_, .i32⟩ : BufTy).Contents (Elt F) → (⟨S8192x16, .i32⟩ : BufTy).Contents (Elt F)),
    binary main_v67 main_v68 main_v69 (andi : (⟨S8192x16, .i32⟩ : BufTy).Contents (Elt F) → (⟨S8192x16, .i32⟩ : BufTy).Contents (Elt F) → (⟨S8192x16, .i32⟩ : BufTy).Contents (Elt F)),
    unary main_v69 main_v70 (sitofp .f32 : (⟨S8192x16, .i32⟩ : BufTy).Contents (Elt F) → (⟨S8192x16, .f32⟩ : BufTy).Contents (Elt F)),
    unary main_v70 main_v71 (broadcastInDim S8x8192x16 ![1, 2] bcast_S8192x16_S8x8192x16_1_2 : (⟨S8192x16, .f32⟩ : BufTy).Contents (Elt F) → (⟨S8x8192x16, .f32⟩ : BufTy).Contents (Elt F)) ]

/-- The two hidden layers of the decoder. -/
abbrev hiddenOps : List (HloOp τ sig (Elt F)) :=
  [ nary ![main_v71, main_v30, main_v60] main_v72 (fun u => (concatenate S8x8192x592 2 [⟨S8x8192x16, (u 0 : (⟨S8x8192x16, .f32⟩ : BufTy).Contents (Elt F))⟩, ⟨S8x8192x64, (u 1 : (⟨S8x8192x64, .f32⟩ : BufTy).Contents (Elt F))⟩, ⟨S8x8192x512, (u 2 : (⟨S8x8192x512, .f32⟩ : BufTy).Contents (Elt F))⟩] concatenates_S8x8192x16_S8x8192x64_S8x8192x512_S8x8192x592_d2 : (⟨S8x8192x592, .f32⟩ : BufTy).Contents (Elt F))),
    binary main_v72 main_arg13 main_v73 ((fun l r => Host.dotGeneral dot_S8x8192x592_S592x64_S8x8192x64_2_0_01_1_n_n none l r) : (⟨S8x8192x592, .f32⟩ : BufTy).Contents (Elt F) → (⟨S592x64, .f32⟩ : BufTy).Contents (Elt F) → (⟨S8x8192x64, .f32⟩ : BufTy).Contents (Elt F)),
    unary main_arg14 main_v74 (broadcastInDim S1x1x64 ![2] bcast_S64_S1x1x64_2 : (⟨S64, .f32⟩ : BufTy).Contents (Elt F) → (⟨S1x1x64, .f32⟩ : BufTy).Contents (Elt F)),
    unary main_v74 main_v75 (broadcastInDim S8x8192x64 ![0, 1, 2] bcast_S1x1x64_S8x8192x64_0_1_2 : (⟨S1x1x64, .f32⟩ : BufTy).Contents (Elt F) → (⟨S8x8192x64, .f32⟩ : BufTy).Contents (Elt F)),
    binary main_v73 main_v75 main_v76 (addf : (⟨S8x8192x64, .f32⟩ : BufTy).Contents (Elt F) → (⟨S8x8192x64, .f32⟩ : BufTy).Contents (Elt F) → (⟨S8x8192x64, .f32⟩ : BufTy).Contents (Elt F)),
    TRef.nullary (.of (T := ⟨S_, .f32⟩) main_call6_cst) (constant S_ .f32 0x00000000#32),
    TRef.unary (.of (T := ⟨S_, .f32⟩) main_call6_cst) (.of (T := ⟨S8x8192x64, .f32⟩) main_call6_v0) (broadcastInDim S8x8192x64 ![] bcast_S_S8x8192x64),
    TRef.binary (.of (T := ⟨S8x8192x64, .f32⟩) main_v76) (.of (T := ⟨S8x8192x64, .f32⟩) main_call6_v0) (.of (T := ⟨S8x8192x64, .f32⟩) main_v77) maximumf,
    binary main_v77 main_arg15 main_v78 ((fun l r => Host.dotGeneral dot_S8x8192x64_S64x64_S8x8192x64_2_0_01_1_n_n none l r) : (⟨S8x8192x64, .f32⟩ : BufTy).Contents (Elt F) → (⟨S64x64, .f32⟩ : BufTy).Contents (Elt F) → (⟨S8x8192x64, .f32⟩ : BufTy).Contents (Elt F)),
    unary main_arg16 main_v79 (broadcastInDim S1x1x64 ![2] bcast_S64_S1x1x64_2 : (⟨S64, .f32⟩ : BufTy).Contents (Elt F) → (⟨S1x1x64, .f32⟩ : BufTy).Contents (Elt F)),
    unary main_v79 main_v80 (broadcastInDim S8x8192x64 ![0, 1, 2] bcast_S1x1x64_S8x8192x64_0_1_2 : (⟨S1x1x64, .f32⟩ : BufTy).Contents (Elt F) → (⟨S8x8192x64, .f32⟩ : BufTy).Contents (Elt F)),
    binary main_v78 main_v80 main_v81 (addf : (⟨S8x8192x64, .f32⟩ : BufTy).Contents (Elt F) → (⟨S8x8192x64, .f32⟩ : BufTy).Contents (Elt F) → (⟨S8x8192x64, .f32⟩ : BufTy).Contents (Elt F)),
    TRef.nullary (.of (T := ⟨S_, .f32⟩) main_call7_cst) (constant S_ .f32 0x00000000#32),
    TRef.unary (.of (T := ⟨S_, .f32⟩) main_call7_cst) (.of (T := ⟨S8x8192x64, .f32⟩) main_call7_v0) (broadcastInDim S8x8192x64 ![] bcast_S_S8x8192x64),
    TRef.binary (.of (T := ⟨S8x8192x64, .f32⟩) main_v81) (.of (T := ⟨S8x8192x64, .f32⟩) main_call7_v0) (.of (T := ⟨S8x8192x64, .f32⟩) main_v82) maximumf ]

/-- The decoder's last layer. -/
abbrev outOps : List (HloOp τ sig (Elt F)) :=
  [ binary main_v82 main_arg17 main_v83 ((fun l r => Host.dotGeneral dot_S8x8192x64_S64x3_S8x8192x3_2_0_01_1_n_n none l r) : (⟨S8x8192x64, .f32⟩ : BufTy).Contents (Elt F) → (⟨S64x3, .f32⟩ : BufTy).Contents (Elt F) → (⟨S8x8192x3, .f32⟩ : BufTy).Contents (Elt F)),
    unary main_arg18 main_v84 (broadcastInDim S1x1x3 ![2] bcast_S3_S1x1x3_2 : (⟨S3, .f32⟩ : BufTy).Contents (Elt F) → (⟨S1x1x3, .f32⟩ : BufTy).Contents (Elt F)),
    unary main_v84 main_v85 (broadcastInDim S8x8192x3 ![0, 1, 2] bcast_S1x1x3_S8x8192x3_0_1_2 : (⟨S1x1x3, .f32⟩ : BufTy).Contents (Elt F) → (⟨S8x8192x3, .f32⟩ : BufTy).Contents (Elt F)),
    binary main_v83 main_v85 main_v86 (addf : (⟨S8x8192x3, .f32⟩ : BufTy).Contents (Elt F) → (⟨S8x8192x3, .f32⟩ : BufTy).Contents (Elt F) → (⟨S8x8192x3, .f32⟩ : BufTy).Contents (Elt F)) ]

/-- The buffers that `posOps` writes. -/
def posOps_out : List (Ref sig .tc) := [main_v0, main_v1, main_v2, main_v3, main_v4, main_v5, main_v6, main_c, main_v7, main_v8, main_v9, main_v10]

/-- Each operation of `posOps` names TensorCore buffers alone. -/
theorem posOps_sub : (posOps : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., nullary_bufs_sub .., unary_bufs_sub .., binary_bufs_sub .., unary_bufs_sub .., unary_bufs_sub ..⟩

/-- Each operation of `posOps` determines its result. -/
theorem posOps_fresh : (posOps : List (HloOp τ sig (Elt F))).Forall fun op => op.fresh = ∅ :=
  ⟨rfl, rfl, rfl, rfl, rfl, rfl, rfl, rfl, rfl, rfl, rfl, rfl⟩

/-- Each operation of `posOps` writes one of the buffers listed. -/
theorem posOps_writes : (posOps : List (HloOp τ sig (Elt F))).Forall (WritesIn posOps_out) :=
  ⟨⟨main_v0, by decide, rfl⟩, ⟨main_v1, by decide, rfl⟩, ⟨main_v2, by decide, rfl⟩, ⟨main_v3, by decide, rfl⟩, ⟨main_v4, by decide, rfl⟩, ⟨main_v5, by decide, rfl⟩, ⟨main_v6, by decide, rfl⟩, ⟨main_c, by decide, rfl⟩, ⟨main_v7, by decide, rfl⟩, ⟨main_v8, by decide, rfl⟩, ⟨main_v9, by decide, rfl⟩, ⟨main_v10, by decide, rfl⟩⟩

/-- A buffer that `posOps` does not write keeps its contents. -/
theorem posOps_keep (V : Valuation τ sig (Elt F)) (b : Ref sig .tc) (h : b ∉ posOps_out) :
    after posOps V (Proc.devRef .tc b) = V (Proc.devRef .tc b) :=
  keep_of_writes posOps_writes V h

/-- The buffers that `groupOps` writes. -/
def groupOps_out : List (Ref sig .tc) := [main_v11, main_v12, main_v13, main_v14, main_v15, main_call0_cst, main_call0_v0, main_v16, main_v17, main_v18, main_v19, main_v20, main_call1_cst, main_call1_v0, main_v21]

/-- Each operation of `groupOps` names TensorCore buffers alone. -/
theorem groupOps_sub : (groupOps : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

/-- Each operation of `groupOps` determines its result. -/
theorem groupOps_fresh : (groupOps : List (HloOp τ sig (Elt F))).Forall fun op => op.fresh = ∅ :=
  ⟨rfl, rfl, rfl, rfl, rfl, rfl, rfl, rfl, rfl, rfl, rfl, rfl, rfl, rfl, rfl⟩

/-- Each operation of `groupOps` writes one of the buffers listed. -/
theorem groupOps_writes : (groupOps : List (HloOp τ sig (Elt F))).Forall (WritesIn groupOps_out) :=
  ⟨⟨main_v11, by decide, rfl⟩, ⟨main_v12, by decide, rfl⟩, ⟨main_v13, by decide, rfl⟩, ⟨main_v14, by decide, rfl⟩, ⟨main_v15, by decide, rfl⟩, ⟨main_call0_cst, by decide, rfl⟩, ⟨main_call0_v0, by decide, rfl⟩, ⟨main_v16, by decide, rfl⟩, ⟨main_v17, by decide, rfl⟩, ⟨main_v18, by decide, rfl⟩, ⟨main_v19, by decide, rfl⟩, ⟨main_v20, by decide, rfl⟩, ⟨main_call1_cst, by decide, rfl⟩, ⟨main_call1_v0, by decide, rfl⟩, ⟨main_v21, by decide, rfl⟩⟩

/-- A buffer that `groupOps` does not write keeps its contents. -/
theorem groupOps_keep (V : Valuation τ sig (Elt F)) (b : Ref sig .tc) (h : b ∉ groupOps_out) :
    after groupOps V (Proc.devRef .tc b) = V (Proc.devRef .tc b) :=
  keep_of_writes groupOps_writes V h

/-- The buffers that `latentOps` writes. -/
def latentOps_out : List (Ref sig .tc) := [main_cst, main_v22, main_cst_0, main_v23, main_v24, main_v25, main_v26, main_v27, main_v28, main_v29, main_v30]

/-- Each operation of `latentOps` names TensorCore buffers alone. -/
theorem latentOps_sub : (latentOps : List (HloOp τ sig (Elt F))).Forall fun op => op.bufs ⊆ tcRefs τ sig :=
  ⟨nullary_bufs_sub .., binary_bufs_sub .., nullary_bufs_sub .., unary_bufs_sub .., binary_bufs_sub .., binary_bufs_sub .., unary_bufs_sub .., unary_bufs_sub .., binary_bufs_sub .., unary_bufs_sub .., unary_bufs_sub ..⟩

/-- Each operation of `latentOps` determines its result. -/
theorem latentOps_fresh : (latentOps : List (HloOp τ sig (Elt F))).Forall fun op => op.fresh = ∅ :=
  ⟨rfl, rfl, rfl, rfl, rfl, rfl, rfl, rfl, rfl, rfl, rfl⟩

/-- Each operation of `latentOps` writes one of the buffers listed. -/
theorem latentOps_writes : (latentOps : List (HloOp τ sig (Elt F))).Forall (WritesIn latentOps_out) :=
  ⟨⟨main_cst, by decide, rfl⟩, ⟨main_v22, by decide, rfl⟩, ⟨main_cst_0, by decide, rfl⟩, ⟨main_v23, by decide, rfl⟩, ⟨main_v24, by decide, rfl⟩, ⟨main_v25, by decide, rfl⟩, ⟨main_v26, by decide, rfl⟩, ⟨main_v27, by decide, rfl⟩, ⟨main_v28, by decide, rfl⟩, ⟨main_v29, by decide, rfl⟩, ⟨main_v30, by decide, rfl⟩⟩

/-- A buffer that `latentOps` does not write keeps its contents. -/
theorem latentOps_keep (V : Valuation τ sig (Elt F)) (b : Ref sig .tc) (h : b ∉ latentOps_out) :
    after latentOps V (Proc.devRef .tc b) = V (Proc.devRef .tc b) :=
  keep_of_writes latentOps_writes V h

/-- The buffers that `logitOps` writes. -/
def logitOps_out : List (Ref sig .tc) := [main_v31, main_v32, main_v33, main_v34, main_v35, main_call2_cst, main_call2_v0, main_v36, main_v37, main_v38, main_v39, main_v40, main_call3_cst, main_call3_v0, main_v41, main_v42, main_v43, main_v44, main_v45]

/-- Each operation of `logitOps` names TensorCore buffers alone. -/
theorem logitOps_sub : (logitOps : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- Each operation of `logitOps` determines its result. -/
theorem logitOps_fresh : (logitOps : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Each operation of `logitOps` writes one of the buffers listed. -/
theorem logitOps_writes : (logitOps : List (HloOp τ sig (Elt F))).Forall (WritesIn logitOps_out) :=
  ⟨⟨main_v31, by decide, rfl⟩, ⟨main_v32, by decide, rfl⟩, ⟨main_v33, by decide, rfl⟩, ⟨main_v34, by decide, rfl⟩, ⟨main_v35, by decide, rfl⟩, ⟨main_call2_cst, by decide, rfl⟩, ⟨main_call2_v0, by decide, rfl⟩, ⟨main_v36, by decide, rfl⟩, ⟨main_v37, by decide, rfl⟩, ⟨main_v38, by decide, rfl⟩, ⟨main_v39, by decide, rfl⟩, ⟨main_v40, by decide, rfl⟩, ⟨main_call3_cst, by decide, rfl⟩, ⟨main_call3_v0, by decide, rfl⟩, ⟨main_v41, by decide, rfl⟩, ⟨main_v42, by decide, rfl⟩, ⟨main_v43, by decide, rfl⟩, ⟨main_v44, by decide, rfl⟩, ⟨main_v45, by decide, rfl⟩⟩

/-- A buffer that `logitOps` does not write keeps its contents. -/
theorem logitOps_keep (V : Valuation τ sig (Elt F)) (b : Ref sig .tc) (h : b ∉ logitOps_out) :
    after logitOps V (Proc.devRef .tc b) = V (Proc.devRef .tc b) :=
  keep_of_writes logitOps_writes V h

/-- The buffers that `softmaxOps` writes. -/
def softmaxOps_out : List (Ref sig .tc) := [main_cst_1, main_v46, main_cst_2, main_v47, main_v48, main_v49, main_v50, main_v51, main_v52, main_cst_3, main_v53, main_v54, main_v55, main_v56]

/-- Each operation of `softmaxOps` names TensorCore buffers alone. -/
theorem softmaxOps_sub : (softmaxOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- Each operation of `softmaxOps` determines its result. -/
theorem softmaxOps_fresh : (softmaxOps : List (HloOp τ sig (Elt F))).Forall fun op => op.fresh = ∅ :=
  ⟨rfl, rfl, rfl, rfl, rfl, rfl, rfl, rfl, rfl, rfl, rfl, rfl, rfl, rfl⟩

/-- Each operation of `softmaxOps` writes one of the buffers listed. -/
theorem softmaxOps_writes : (softmaxOps : List (HloOp τ sig (Elt F))).Forall (WritesIn softmaxOps_out) :=
  ⟨⟨main_cst_1, by decide, rfl⟩, ⟨main_v46, by decide, rfl⟩, ⟨main_cst_2, by decide, rfl⟩, ⟨main_v47, by decide, rfl⟩, ⟨main_v48, by decide, rfl⟩, ⟨main_v49, by decide, rfl⟩, ⟨main_v50, by decide, rfl⟩, ⟨main_v51, by decide, rfl⟩, ⟨main_v52, by decide, rfl⟩, ⟨main_cst_3, by decide, rfl⟩, ⟨main_v53, by decide, rfl⟩, ⟨main_v54, by decide, rfl⟩, ⟨main_v55, by decide, rfl⟩, ⟨main_v56, by decide, rfl⟩⟩

/-- A buffer that `softmaxOps` does not write keeps its contents. -/
theorem softmaxOps_keep (V : Valuation τ sig (Elt F)) (b : Ref sig .tc) (h : b ∉ softmaxOps_out) :
    after softmaxOps V (Proc.devRef .tc b) = V (Proc.devRef .tc b) :=
  keep_of_writes softmaxOps_writes V h

/-- The buffers that `hardOps` writes. -/
def hardOps_out : List (Ref sig .tc) := [main_call4_v0, main_call4_cst, main_call4_c, main_call4_v1_0, main_v57, main_call5_v0, main_call5_v1, main_call5_v2, main_call5_v3, main_call5_v4, main_v58, main_v59, main_v60]

/-- Each operation of `hardOps` names TensorCore buffers alone. -/
theorem hardOps_sub : (hardOps : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub ..⟩

/-- Each operation of `hardOps` determines its result. -/
theorem hardOps_fresh : (hardOps : List (HloOp τ sig (Elt F))).Forall fun op => op.fresh = ∅ :=
  ⟨rfl, rfl, rfl, rfl, rfl, rfl, rfl, rfl, rfl, rfl, rfl, rfl, rfl⟩

/-- Each operation of `hardOps` writes one of the buffers listed. -/
theorem hardOps_writes : (hardOps : List (HloOp τ sig (Elt F))).Forall (WritesIn hardOps_out) :=
  ⟨⟨main_call4_v0, by decide, rfl⟩, ⟨main_call4_cst, by decide, rfl⟩, ⟨main_call4_c, by decide, rfl⟩, ⟨main_call4_v1_0, by decide, rfl⟩, ⟨main_v57, by decide, rfl⟩, ⟨main_call5_v0, by decide, rfl⟩, ⟨main_call5_v1, by decide, rfl⟩, ⟨main_call5_v2, by decide, rfl⟩, ⟨main_call5_v3, by decide, rfl⟩, ⟨main_call5_v4, by decide, rfl⟩, ⟨main_v58, by decide, rfl⟩, ⟨main_v59, by decide, rfl⟩, ⟨main_v60, by decide, rfl⟩⟩

/-- A buffer that `hardOps` does not write keeps its contents. -/
theorem hardOps_keep (V : Valuation τ sig (Elt F)) (b : Ref sig .tc) (h : b ∉ hardOps_out) :
    after hardOps V (Proc.devRef .tc b) = V (Proc.devRef .tc b) :=
  keep_of_writes hardOps_writes V h

/-- The buffers that `posOps2` writes. -/
def posOps2_out : List (Ref sig .tc) := [main_v61, main_v62, main_v63, main_v64, main_v65, main_v66, main_v67, main_c_4, main_v68, main_v69, main_v70, main_v71]

/-- Each operation of `posOps2` names TensorCore buffers alone. -/
theorem posOps2_sub : (posOps2 : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., nullary_bufs_sub .., unary_bufs_sub .., binary_bufs_sub .., unary_bufs_sub .., unary_bufs_sub ..⟩

/-- Each operation of `posOps2` determines its result. -/
theorem posOps2_fresh : (posOps2 : List (HloOp τ sig (Elt F))).Forall fun op => op.fresh = ∅ :=
  ⟨rfl, rfl, rfl, rfl, rfl, rfl, rfl, rfl, rfl, rfl, rfl, rfl⟩

/-- Each operation of `posOps2` writes one of the buffers listed. -/
theorem posOps2_writes : (posOps2 : List (HloOp τ sig (Elt F))).Forall (WritesIn posOps2_out) :=
  ⟨⟨main_v61, by decide, rfl⟩, ⟨main_v62, by decide, rfl⟩, ⟨main_v63, by decide, rfl⟩, ⟨main_v64, by decide, rfl⟩, ⟨main_v65, by decide, rfl⟩, ⟨main_v66, by decide, rfl⟩, ⟨main_v67, by decide, rfl⟩, ⟨main_c_4, by decide, rfl⟩, ⟨main_v68, by decide, rfl⟩, ⟨main_v69, by decide, rfl⟩, ⟨main_v70, by decide, rfl⟩, ⟨main_v71, by decide, rfl⟩⟩

/-- A buffer that `posOps2` does not write keeps its contents. -/
theorem posOps2_keep (V : Valuation τ sig (Elt F)) (b : Ref sig .tc) (h : b ∉ posOps2_out) :
    after posOps2 V (Proc.devRef .tc b) = V (Proc.devRef .tc b) :=
  keep_of_writes posOps2_writes V h

/-- The buffers that `hiddenOps` writes. -/
def hiddenOps_out : List (Ref sig .tc) := [main_v72, main_v73, main_v74, main_v75, main_v76, main_call6_cst, main_call6_v0, main_v77, main_v78, main_v79, main_v80, main_v81, main_call7_cst, main_call7_v0, main_v82]

/-- Each operation of `hiddenOps` names TensorCore buffers alone. -/
theorem hiddenOps_sub : (hiddenOps : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

/-- Each operation of `hiddenOps` determines its result. -/
theorem hiddenOps_fresh : (hiddenOps : List (HloOp τ sig (Elt F))).Forall fun op => op.fresh = ∅ :=
  ⟨rfl, rfl, rfl, rfl, rfl, rfl, rfl, rfl, rfl, rfl, rfl, rfl, rfl, rfl, rfl⟩

/-- Each operation of `hiddenOps` writes one of the buffers listed. -/
theorem hiddenOps_writes : (hiddenOps : List (HloOp τ sig (Elt F))).Forall (WritesIn hiddenOps_out) :=
  ⟨⟨main_v72, by decide, rfl⟩, ⟨main_v73, by decide, rfl⟩, ⟨main_v74, by decide, rfl⟩, ⟨main_v75, by decide, rfl⟩, ⟨main_v76, by decide, rfl⟩, ⟨main_call6_cst, by decide, rfl⟩, ⟨main_call6_v0, by decide, rfl⟩, ⟨main_v77, by decide, rfl⟩, ⟨main_v78, by decide, rfl⟩, ⟨main_v79, by decide, rfl⟩, ⟨main_v80, by decide, rfl⟩, ⟨main_v81, by decide, rfl⟩, ⟨main_call7_cst, by decide, rfl⟩, ⟨main_call7_v0, by decide, rfl⟩, ⟨main_v82, by decide, rfl⟩⟩

/-- A buffer that `hiddenOps` does not write keeps its contents. -/
theorem hiddenOps_keep (V : Valuation τ sig (Elt F)) (b : Ref sig .tc) (h : b ∉ hiddenOps_out) :
    after hiddenOps V (Proc.devRef .tc b) = V (Proc.devRef .tc b) :=
  keep_of_writes hiddenOps_writes V h

/-- The buffers that `outOps` writes. -/
def outOps_out : List (Ref sig .tc) := [main_v83, main_v84, main_v85, main_v86]

/-- Each operation of `outOps` names TensorCore buffers alone. -/
theorem outOps_sub : (outOps : List (HloOp τ sig (Elt F))).Forall fun op => op.bufs ⊆ tcRefs τ sig :=
  ⟨binary_bufs_sub .., unary_bufs_sub .., unary_bufs_sub .., binary_bufs_sub ..⟩

/-- Each operation of `outOps` determines its result. -/
theorem outOps_fresh : (outOps : List (HloOp τ sig (Elt F))).Forall fun op => op.fresh = ∅ :=
  ⟨rfl, rfl, rfl, rfl⟩

/-- Each operation of `outOps` writes one of the buffers listed. -/
theorem outOps_writes : (outOps : List (HloOp τ sig (Elt F))).Forall (WritesIn outOps_out) :=
  ⟨⟨main_v83, by decide, rfl⟩, ⟨main_v84, by decide, rfl⟩, ⟨main_v85, by decide, rfl⟩, ⟨main_v86, by decide, rfl⟩⟩

/-- A buffer that `outOps` does not write keeps its contents. -/
theorem outOps_keep (V : Valuation τ sig (Elt F)) (b : Ref sig .tc) (h : b ∉ outOps_out) :
    after outOps V (Proc.devRef .tc b) = V (Proc.devRef .tc b) :=
  keep_of_writes outOps_writes V h

/-- @main's operations in order. -/
abbrev ops : List (HloOp τ sig (Elt F)) :=
  posOps ++ (groupOps ++ (latentOps ++ (logitOps ++ (softmaxOps ++ (hardOps ++ (posOps2 ++ (hiddenOps ++ (outOps))))))))

set_option maxHeartbeats 4000000 in
/-- @main is the line of these operations. -/
theorem main_eq (c : Dev nD) : main (F := F) c = seq ops := rfl
/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide

/-- Every operation names TensorCore buffers alone. -/
theorem ops_sub : (ops : List (HloOp τ sig (Elt F))).Forall fun op => op.bufs ⊆ tcRefs τ sig :=
  List.forall_append.mpr ⟨posOps_sub, List.forall_append.mpr ⟨groupOps_sub, List.forall_append.mpr ⟨latentOps_sub, List.forall_append.mpr ⟨logitOps_sub, List.forall_append.mpr ⟨softmaxOps_sub, List.forall_append.mpr ⟨hardOps_sub, List.forall_append.mpr ⟨posOps2_sub, List.forall_append.mpr ⟨hiddenOps_sub, outOps_sub⟩⟩⟩⟩⟩⟩⟩⟩

/-- Every operation determines its result. -/
theorem ops_fresh : (ops : List (HloOp τ sig (Elt F))).Forall fun op => op.fresh = ∅ :=
  List.forall_append.mpr ⟨posOps_fresh, List.forall_append.mpr ⟨groupOps_fresh, List.forall_append.mpr ⟨latentOps_fresh, List.forall_append.mpr ⟨logitOps_fresh, List.forall_append.mpr ⟨softmaxOps_fresh, List.forall_append.mpr ⟨hardOps_fresh, List.forall_append.mpr ⟨posOps2_fresh, List.forall_append.mpr ⟨hiddenOps_fresh, outOps_fresh⟩⟩⟩⟩⟩⟩⟩⟩

/-- What every buffer holds at the end, from contents `V`, group by group. -/
def endVal (V : Valuation τ sig (Elt F)) : Valuation τ sig (Elt F) :=
  after outOps (after hiddenOps (after posOps2 (after hardOps (after softmaxOps (after logitOps (after latentOps (after groupOps (after posOps V))))))))

/-- The whole line's contents are those of the groups one after another. -/
theorem after_ops (V : Valuation τ sig (Elt F)) : after ops V = endVal V := by
  simp only [ops, after_append, endVal]

/-- The reference's run: every buffer ends at `endVal` of the launch's contents, every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = endVal (launchContents m c) (Proc.devRef .tc b))
      ∧ r.2.sem = fun _ => 0 :=
  (θ_run defs _ _).mono (fun r h => ⟨fun c b => (h c b).trans (by rw [after_ops]), sem_eq_zero_of_no_sems rfl r.2⟩)
    (run_seq scopedRefs_eq scopedSems_eq defs main (fun _ => ops) main_eq (fun _ => ops_sub) m ρ
      (fun _ => List.forall_iff_forall_mem.mp ops_fresh))

/-- The buffers some group writes. -/
def written : List (Ref sig .tc) :=
  posOps_out ++ (groupOps_out ++ (latentOps_out ++ (logitOps_out ++ (softmaxOps_out ++ (hardOps_out ++ (posOps2_out ++ (hiddenOps_out ++ (outOps_out))))))))

/-- A buffer no group writes ends as it began. -/
theorem endVal_keep (V : Valuation τ sig (Elt F)) (b : Ref sig .tc) (h : b ∉ written) :
    endVal V (Proc.devRef .tc b) = V (Proc.devRef .tc b) := by
  simp only [written, List.mem_append, not_or] at h
  obtain ⟨h0, h1, h2, h3, h4, h5, h6, h7, h8⟩ := h
  rw [endVal, outOps_keep _ _ h8, hiddenOps_keep _ _ h7, posOps2_keep _ _ h6, hardOps_keep _ _ h5, softmaxOps_keep _ _ h4, logitOps_keep _ _ h3, latentOps_keep _ _ h2, groupOps_keep _ _ h1, posOps_keep _ _ h0]

end Cert.Proof.Ref
-- ==== Proof.Frames.lean ====
/- The frames of the three programs: arguments unchanged, counters at zero. -/
module

public import proofs.«01_k».proof.Proof.RefRun
public import proofs.«01_k».proof.Proof.Gen.Kernel.Frame
public import proofs.«01_k».proof.Proof.Gen.KernelIdeal.Frame
public import proofs.«01_k».proof.Defs

@[expose] public section

noncomputable section

namespace Cert.Proof

open Idealize.ShloMosaic Idealize.ShloMosaic.TcCoe Idealize.SL.Sem Idealize.ShloMosaic.StableHlo

/-- The kernel's frame. -/
theorem kernel_frame : Cert.quiescent_Kernel := fun m g _ => Cert.Kernel.Gen.frame m g

/-- The idealized kernel's frame. -/
theorem kernelIdeal_frame : Cert.quiescent_KernelIdeal := fun m g _ => Cert.KernelIdeal.Gen.frame m g

/-- The idealized reference's frame. -/
theorem ref_frame : Cert.quiescent_ReferenceIdeal := fun m g _ =>
  (θ_run Cert.ReferenceIdeal.defs _ _).mono
    (fun r h => ⟨fun c => by
      refine ⟨?_, ?_, ?_, ?_, ?_, ?_, ?_, ?_, ?_, ?_, ?_, ?_, ?_, ?_, ?_, ?_, ?_, ?_, ?_⟩ <;>
        exact (h.1 c _).trans (Ref.endVal_keep _ _ (by decide)), h.2⟩)
    (Ref.run m g)

end Cert.Proof
-- ==== Proof.Model.lean ====
/- The networks' mathematics over the extended reals, entry by entry: what both programs compute. -/
module

public import Idealize.ShloMosaic.Lib.Pointwise

@[expose] public section

set_option maxRecDepth 16384

noncomputable section

namespace Cert.Proof.Model

open Idealize.ShloMosaic

/-- A vector of extended reals. -/
abbrev A1 (a : ℕ) := (⟨1, ![a]⟩ : Shape).Idx → EReal
/-- A matrix of extended reals. -/
abbrev A2 (a b : ℕ) := (⟨2, ![a, b]⟩ : Shape).Idx → EReal
/-- A box of extended reals. -/
abbrev A3 (a b c : ℕ) := (⟨3, ![a, b, c]⟩ : Shape).Idx → EReal

/-- The programs' nineteen arguments. -/
structure Args where
  /-- The points. -/
  x : A3 8 8192 3
  /-- The group encoder's weights and biases. -/
  gW1 : A2 19 64
  gb1 : A1 64
  gW2 : A2 64 64
  gb2 : A1 64
  gW3 : A2 64 64
  gb3 : A1 64
  /-- The point encoder's weights and biases. -/
  iW1 : A2 83 64
  ib1 : A1 64
  iW2 : A2 64 64
  ib2 : A1 64
  iW3 : A2 64 512
  ib3 : A1 512
  /-- The decoder's weights and biases. -/
  dW1 : A2 592 64
  db1 : A1 64
  dW2 : A2 64 64
  db2 : A1 64
  dW3 : A2 64 3
  db3 : A1 3

/-- Bit `k` of the position `n`, as a float. -/
def bit (n : Fin 8192) (k : Fin 16) : EReal :=
  FloatOps.sitofp (F := Ideal) FTy.f32
    (IntOp.andi (IntOp.shrsi ArithUnit.host (BitVec.ofNat 32 n.val) (BitVec.ofNat 32 k.val)) 1#32)

/-- A dense layer at one output. -/
def dense {K : ℕ} (h : Fin 64 → EReal) (W : A2 64 K) (v : A1 K) (j : Fin K) : EReal :=
  ∑ k : Fin 64, h k * W (ix2 k j) + v (ix1 j)

/-- A dense layer cut off below at zero. -/
def relu {K : ℕ} (h : Fin 64 → EReal) (W : A2 64 K) (v : A1 K) (j : Fin K) : EReal := max (dense h W v j) 0

variable (a : Args)

/-- The group encoder's first hidden layer. -/
def g1 (b : Fin 8) (n : Fin 8192) (j : Fin 64) : EReal :=
  max (∑ k : Fin 3, a.x (ix3 b n k) * a.gW1 (ix2 ⟨k.val, by omega⟩ j)
    + ∑ k : Fin 16, bit n k * a.gW1 (ix2 ⟨3 + k.val, by omega⟩ j) + a.gb1 (ix1 j)) 0

/-- The group encoder's second hidden layer. -/
def g2 (b : Fin 8) (n : Fin 8192) : Fin 64 → EReal := relu (g1 a b n) a.gW2 a.gb2

/-- The second hidden layer summed over the points. -/
def hsum (b : Fin 8) (j : Fin 64) : EReal := ∑ n : Fin 8192, g2 a b n j

/-- The group latent. -/
def u (b : Fin 8) : Fin 64 → EReal :=
  dense (fun k => Ideal.div (hsum a b k) (Ideal.ofBits FTy.f32 1174405120#32)) a.gW3 a.gb3

/-- The point encoder's first hidden layer. -/
def l1 (b : Fin 8) (n : Fin 8192) (j : Fin 64) : EReal :=
  max (∑ k : Fin 3, a.x (ix3 b n k) * a.iW1 (ix2 ⟨k.val, by omega⟩ j)
    + ∑ k : Fin 16, bit n k * a.iW1 (ix2 ⟨3 + k.val, by omega⟩ j)
    + ∑ k : Fin 64, u a b k * a.iW1 (ix2 ⟨3 + 16 + k.val, by omega⟩ j) + a.ib1 (ix1 j)) 0

/-- The logits. -/
def lg (b : Fin 8) (n : Fin 8192) : Fin 512 → EReal := dense (relu (l1 a b n) a.iW2 a.ib2) a.iW3 a.ib3

/-- The largest of a row. -/
def top (l : Fin 512 → EReal) : EReal := Finset.univ.fold max (Ideal.ofBits FTy.f32 4286578688#32) l

/-- The mark of the largest entry of a row. -/
def hot (l : Fin 512 → EReal) (k : Fin 512) : EReal := if l k = top l then 1 else 0

/-- The decoder's first hidden layer. -/
def d1 (b : Fin 8) (n : Fin 8192) (j : Fin 64) : EReal :=
  max (∑ k : Fin 16, bit n k * a.dW1 (ix2 ⟨k.val, by omega⟩ j)
    + ∑ k : Fin 64, u a b k * a.dW1 (ix2 ⟨16 + k.val, by omega⟩ j)
    + ∑ k : Fin 512, hot (lg a b n) k * a.dW1 (ix2 ⟨16 + 64 + k.val, by omega⟩ j) + a.db1 (ix1 j)) 0

/-- The decoded point. -/
def out (b : Fin 8) (n : Fin 8192) : Fin 3 → EReal := dense (relu (d1 a b n) a.dW2 a.db2) a.dW3 a.db3

/-- A sum over an axis joined from three pieces is the sum of the pieces' sums. -/
theorem sum_three {N : ℕ} (p q r : ℕ) (hN : N = p + q + r) (A : Fin p → EReal) (B : Fin q → EReal) (C : Fin r → EReal)
    (W : Fin N → EReal) :
    ∑ x : Fin N, (if h : x.val < p then A ⟨x.val, h⟩ else if h' : x.val - p < q then B ⟨x.val - p, h'⟩
      else C ⟨x.val - p - q, by omega⟩) * W x
    = ∑ k : Fin p, A k * W ⟨k.val, by omega⟩ + ∑ k : Fin q, B k * W ⟨p + k.val, by omega⟩
      + ∑ k : Fin r, C k * W ⟨p + q + k.val, by omega⟩ := by
  subst hN
  rw [Fin.sum_univ_add, Fin.sum_univ_add]
  refine congrArg₂ (· + ·) (congrArg₂ (· + ·) ?_ ?_) ?_ <;> refine Finset.sum_congr rfl fun k _ => ?_
  · simp only [Fin.val_castAdd, k.isLt, dite_true]
    rfl
  · have h1 : ¬ (p + k.val < p) := by omega
    have h2 : p + k.val - p = k.val := by omega
    simp only [Fin.val_castAdd, Fin.val_natAdd, h1, dite_false, h2, k.isLt, dite_true]
    rfl
  · have h1 : ¬ (p + q + k.val < p) := by omega
    have h2 : ¬ (p + q + k.val - p < q) := by omega
    have h3 : p + q + k.val - p - q = k.val := by omega
    simp only [Fin.val_natAdd, h1, dite_false, h2, h3]
    rfl

end Cert.Proof.Model
-- ==== Proof.Hard.lean ====
/- One row of logits with a single finite largest entry: its softmax, the index of the softmax's largest entry, and the
   straight-through code. -/
module

public import proofs.«01_k».proof.Proof.Model

@[expose] public section

set_option maxRecDepth 16384

noncomputable section

namespace Cert.Proof.Model

open Idealize.ShloMosaic

/-- The row has one largest entry, and it is less than infinity. -/
def OneTop (l : Fin 512 → EReal) : Prop := (∃ k₀, ∀ k, l k = top l ↔ k = k₀) ∧ top l < ⊤

/-- The pattern of negative infinity. -/
theorem ofBits_ninf : Ideal.ofBits FTy.f32 4286578688#32 = ⊥ := by
  simp [Ideal.ofBits, Ideal.ieee]

/-- The largest entry as a supremum. -/
theorem top_eq_sup (l : Fin 512 → EReal) : top l = Finset.univ.sup l := by
  unfold top
  rw [ofBits_ninf]
  rfl

/-- Every entry is at most the largest. -/
theorem le_top' (l : Fin 512 → EReal) (k : Fin 512) : l k ≤ top l :=
  top_eq_sup l ▸ Finset.le_sup (Finset.mem_univ k)

/-- The row's exponentials. -/
def exps (l : Fin 512 → EReal) (k : Fin 512) : EReal :=
  Ideal.exp (l k - max (Ideal.ofBits FTy.f32 4286578688#32) (top l))

/-- The row's softmax. -/
def soft (l : Fin 512 → EReal) (k : Fin 512) : EReal := Ideal.div (exps l k) (∑ x, exps l x)

/-- A single finite largest entry is a real number. -/
theorem OneTop.real {l : Fin 512 → EReal} (h : OneTop l) : ∃ r : ℝ, top l = (r : EReal) := by
  obtain ⟨⟨k₀, hk⟩, hlt⟩ := h
  have hb : top l ≠ ⊥ := fun hb => by
    have h0 : ∀ k, l k = top l := fun k => le_antisymm (le_top' l k) (hb ▸ bot_le)
    exact absurd (((hk 0).mp (h0 0)).trans ((hk 1).mp (h0 1)).symm) (by decide)
  exact ⟨(top l).toReal, (EReal.coe_toReal hlt.ne hb).symm⟩

/-- The exponentials are real numbers: one at the largest entry, in [0, 1) elsewhere. -/
theorem OneTop.exps_real {l : Fin 512 → EReal} (h : OneTop l) {k₀ : Fin 512} (hk : ∀ k, l k = top l ↔ k = k₀) :
    ∃ e : Fin 512 → ℝ, (∀ k, exps l k = (e k : EReal)) ∧ e k₀ = 1 ∧ (∀ k, 0 ≤ e k) ∧ ∀ k, k ≠ k₀ → e k < 1 := by
  obtain ⟨r, hr⟩ := h.real
  have key : ∀ k, ∃ e : ℝ, exps l k = (e : EReal) ∧ (k = k₀ → e = 1) ∧ 0 ≤ e ∧ (k ≠ k₀ → e < 1) := fun k => by
    have hle := le_top' l k
    have hiff := hk k
    unfold exps
    rw [ofBits_ninf, max_eq_right bot_le]
    rw [hr] at hle hiff ⊢
    generalize l k = t at hle hiff ⊢
    induction t using EReal.rec with
    | bot =>
      refine ⟨0, ?_, fun e => absurd (hiff.mpr e) (by simp), le_rfl, fun _ => one_pos⟩
      rw [EReal.bot_sub]; rfl
    | top => exact absurd hle (by simp)
    | coe s =>
      refine ⟨Real.exp (s - r), ?_, fun e => ?_, (Real.exp_pos _).le, fun e => ?_⟩
      · rw [← EReal.coe_sub]; rfl
      · have : s = r := EReal.coe_injective (hiff.mpr e)
        rw [this, sub_self, Real.exp_zero]
      · have h1 : s ≤ r := EReal.coe_le_coe_iff.mp hle
        have h2 : s ≠ r := fun q => e (hiff.mp (congrArg _ q))
        have h3 : s - r < 0 := sub_neg.mpr (lt_of_le_of_ne h1 h2)
        calc Real.exp (s - r) < Real.exp 0 := Real.exp_lt_exp.mpr h3
          _ = 1 := Real.exp_zero
  choose e he using key
  exact ⟨e, fun k => (he k).1, (he k₀).2.1 rfl, fun k => (he k).2.2.1, fun k => (he k).2.2.2⟩

/-- A finite sum of real numbers, as extended reals. -/
theorem coe_sum' {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The softmax is real and largest at the largest logit alone. -/
theorem OneTop.soft_real {l : Fin 512 → EReal} (h : OneTop l) {k₀ : Fin 512} (hk : ∀ k, l k = top l ↔ k = k₀) :
    ∃ v : Fin 512 → ℝ, (∀ k, soft l k = (v k : EReal)) ∧ 0 < v k₀ ∧ ∀ k, k ≠ k₀ → v k < v k₀ := by
  obtain ⟨e, he, h1, h0, hlt⟩ := h.exps_real hk
  have hS : (1 : ℝ) ≤ ∑ x, e x := by
    rw [← h1]
    exact Finset.single_le_sum (fun i _ => h0 i) (Finset.mem_univ k₀)
  have hpos : (0 : ℝ) < ∑ x, e x := lt_of_lt_of_le one_pos hS
  refine ⟨fun k => e k * (∑ x, e x)⁻¹, fun k => ?_, ?_, fun k hne => ?_⟩
  · unfold soft Ideal.div
    simp only [he]
    rw [← coe_sum', if_neg (by rw [← EReal.coe_zero]; exact fun q => hpos.ne' (EReal.coe_injective q)), ← EReal.coe_inv,
      ← EReal.coe_mul]
  · simp only [h1]; positivity
  · simp only [h1]
    exact mul_lt_mul_of_pos_right (hlt k hne) (inv_pos.mpr hpos)

/-- A choice between two pairs that keeps the one of larger value ends at the single largest pair of a list. -/
theorem foldl_largest {β : Type} (f : EReal × β → EReal × β → EReal × β)
    (hl : ∀ a b, b.1 < a.1 → f a b = a) (hr : ∀ a b, a.1 < b.1 → f a b = b) (hs : ∀ a, f a a = a)
    (hv : ∀ a b, (f a b).1 = a.1 ∨ (f a b).1 = b.1) (p : EReal × β) :
    ∀ (L : List (EReal × β)) (init : EReal × β), (∀ q ∈ L, q.1 < p.1 ∨ q = p) →
      (init = p ∨ (init.1 < p.1 ∧ p ∈ L)) → L.foldl f init = p := by
  intro L
  induction L with
  | nil =>
    intro init _ hi
    rcases hi with hi | ⟨_, hm⟩
    · exact hi
    · exact absurd hm (by simp)
  | cons q L ih =>
    intro init hL hi
    have hq := hL q (by simp)
    have hL' : ∀ q ∈ L, q.1 < p.1 ∨ q = p := fun q hq => hL q (List.mem_cons_of_mem _ hq)
    rw [List.foldl_cons]
    rcases hi with hi | ⟨hlt, hm⟩
    · refine ih _ hL' (.inl ?_)
      rcases hq with hq | hq
      · rw [hi]; exact hl _ _ hq
      · rw [hi, hq]; exact hs _
    · rcases hq with hq | hq
      · refine ih _ hL' (.inr ⟨?_, ?_⟩)
        · rcases hv init q with e | e <;> rw [e] <;> assumption
        · rcases List.mem_cons.mp hm with e | e
          · exact absurd hq (by rw [e]; exact lt_irrefl _)
          · exact e
      · refine ih _ hL' (.inl ?_)
        rw [hq]; exact hr _ _ hlt

/-- A real number taken away and put back. -/
theorem sub_add_real (y : EReal) (v : ℝ) : y - (v : EReal) + (v : EReal) = y := by
  induction y using EReal.rec with
  | bot => rw [EReal.bot_sub, EReal.bot_add]
  | top => simp
  | coe s => rw [← EReal.coe_sub, ← EReal.coe_add, sub_add_cancel]

end Cert.Proof.Model
-- ==== Proof.KernelPay.lean ====
/- The two kernels' payloads, entry by entry. -/
module

public import proofs.«01_k».proof.Proof.Gen.KernelIdeal.Frame
public import proofs.«01_k».proof.Proof.Model
public import proofs.«01_k».proof.Proof.Hard
public import Idealize.ShloMosaic.Lib.Pointwise
public import Idealize.ShloMosaic.Lib.Pipeline.ValueKit

@[expose] public section

set_option maxRecDepth 16384

noncomputable section

namespace Cert.Proof.Kern

open Cert.KernelIdeal Cert.KernelIdeal.Gen Idealize.ShloMosaic Idealize.ShloMosaic.TcCoe Idealize.SL.Sem

/-- The position bits repeated for each batch, at a row. -/
theorem pay2_apply (r : FVec Ideal S512x16 .f32) (i : Fin 4096) (k : Fin 16) :
    @Eq EReal (k1_pay2 (F := Ideal) r (ix2 i k)) (r (ix2 ⟨i.val % 512, by omega⟩ k)) := by
  pointwise [k1_pay2]

/-- The logits at a row. -/
theorem pay3_apply (x : FVec Ideal S8x512x3 .f32) (r : FVec Ideal S512x16 .f32) (u : FVec Ideal S8x64 .f32)
    (W1 : FVec Ideal S83x64 .f32) (v1 : FVec Ideal S64 .f32) (W2 : FVec Ideal S64x64 .f32) (v2 : FVec Ideal S64 .f32)
    (W3 : FVec Ideal S64x512 .f32) (v3 : FVec Ideal S512 .f32) (i : Fin 4096) (k : Fin 512) :
    @Eq EReal (k1_pay3 (F := Ideal) x r u W1 v1 W2 v2 W3 v3 (ix2 i k))
      (Model.dense (Model.relu (fun j => max (∑ k : Fin 3, x (ix3 ⟨i.val / 512, by omega⟩ ⟨i.val % 512, by omega⟩ k) * W1 (ix2 ⟨k.val, by omega⟩ j)
        + ∑ k : Fin 16, r (ix2 ⟨i.val % 512, by omega⟩ k) * W1 (ix2 ⟨3 + k.val, by omega⟩ j)
        + ∑ k : Fin 64, u (ix2 ⟨i.val / 512, by omega⟩ k) * W1 (ix2 ⟨3 + 16 + k.val, by omega⟩ j) + v1 (ix1 j)) 0) W2 v2) W3 v3 k) := by
  pointwise [k1_pay3, k1_pay2]
  refine congrArg (fun h => Model.dense (Model.relu h W2 v2) W3 v3 k) (funext fun j => ?_)
  refine congrArg (fun t : EReal => max (t + v1 (ix1 j)) 0) ?_
  exact Model.sum_three 3 16 64 rfl (fun k => x (ix3 ⟨i.val / 512, by omega⟩ ⟨i.val % 512, by omega⟩ k))
    (fun k => r (ix2 ⟨i.val % 512, by omega⟩ k)) (fun k => u (ix2 ⟨i.val / 512, by omega⟩ k)) (fun k => W1 (ix2 k j))

/-- A widened test of equality, as a float. -/
theorem mark_val (x y : EReal) : @Eq EReal (FloatOps.sitofp (F := Ideal) FTy.f32 ((Ideal.cmp .oeq x y).setWidth 32)) (if x = y then 1 else 0) := by
  show ((((Ideal.cmp .oeq x y).setWidth 32).toInt : ℝ) : EReal) = _
  by_cases h : x = y
  · rw [if_pos h, show Ideal.cmp .oeq x y = 1#1 by simp [Ideal.cmp, h], show ((1#1 : BitVec 1).setWidth 32).toInt = 1 by decide]
    simp
  · rw [if_neg h, show Ideal.cmp .oeq x y = 0#1 by simp [Ideal.cmp, h], show ((0#1 : BitVec 1).setWidth 32).toInt = 0 by decide]
    simp

/-- The mark of the largest logit at a row. -/
theorem pay4_apply (l : FVec Ideal S4096x512 .f32) (i : Fin 4096) (k : Fin 512) :
    @Eq EReal (k1_pay4 (F := Ideal) l (ix2 i k)) (Model.hot (fun k => l (ix2 i k)) k) := by
  pointwise [k1_pay4]
  exact mark_val (l (ix2 i k)) (Model.top fun k => l (ix2 i k))

/-- The written marks at an entry. -/
theorem pay5_apply (l : FVec Ideal S4096x512 .f32) (b : Fin 8) (r : Fin 512) (k : Fin 512) :
    @Eq EReal (k1_pay5 (F := Ideal) l (ix3 b r k)) (Model.hot (fun k => l (ix2 ⟨b.val * 512 + r.val, by omega⟩ k)) k) := by
  rw [show k1_pay5 l (ix3 b r k) = k1_pay4 l (ix2 ⟨b.val * 512 + r.val, by omega⟩ k) from by pointwise [k1_pay5]]
  exact pay4_apply l _ k

/-- The decoded points at a row, the marks given. -/
theorem pay6_apply (p : FVec Ideal S4096x16 .f32) (l : FVec Ideal S4096x512 .f32) (ur : FVec Ideal S8x64 .f32)
    (Wr : FVec Ideal S16x64 .f32) (Wv : FVec Ideal S512x64 .f32) (W2 : FVec Ideal S64x64 .f32) (v2 : FVec Ideal S64 .f32)
    (W3 : FVec Ideal S64x3 .f32) (v3 : FVec Ideal S3 .f32) (i : Fin 4096) (k : Fin 3) :
    @Eq EReal (k1_pay6 (F := Ideal) p l ur Wr Wv W2 v2 W3 v3 (ix2 i k))
      (Model.dense (Model.relu (fun j => max (∑ k : Fin 16, p (ix2 i k) * Wr (ix2 k j)
        + ∑ k : Fin 512, k1_pay4 (F := Ideal) l (ix2 i k) * Wv (ix2 k j) + ur (ix2 ⟨i.val / 512, by omega⟩ j)) 0) W2 v2) W3 v3 k) := by
  pointwise [k1_pay6]
  rfl

/-- The written points at an entry. -/
theorem pay1_apply (p : FVec Ideal S4096x3 .f32) (b : Fin 8) (r : Fin 512) (k : Fin 3) :
    @Eq EReal (k1_pay1 (F := Ideal) p (ix3 b r k)) (p (ix2 ⟨b.val * 512 + r.val, by omega⟩ k)) := by
  pointwise [k1_pay1]

/-- The reset sum. -/
theorem acc0_apply (b : Fin 8) (j : Fin 64) : @Eq EReal (k0_pay3 (F := Ideal) (ix2 b j)) 0 := by
  pointwise [k0_pay3]

/-- The group encoder's hidden layers, whole. -/
def hidV (x : FVec Ideal S8x2048x3 .f32) (r : FVec Ideal S2048x16 .f32) (W1 : FVec Ideal S19x64 .f32) (v1 : FVec Ideal S64 .f32)
    (W2 : FVec Ideal S64x64 .f32) (v2 : FVec Ideal S64 .f32) : FVec Ideal S16384x64 .f32 :=
  maximumf (addf (matmul dot_S16384x64_S64x64_S16384x64_1_0_0_1_n_n none
    (maximumf (addf (matmul dot_S16384x19_S19x64_S16384x64_1_0_0_1_n_n none
      (concatenate S16384x19 1 [⟨S16384x3, shapeCast S16384x3 x shapeCasts_S8x2048x3_S16384x3⟩,
        ⟨S16384x16, shapeCast S16384x16 (broadcastTo S8x2048x16 (shapeCast S1x2048x16 (shapeCast S1x2048x16
          (shapeCast S2048x16 r shapeCasts_S2048x16_S2048x16) shapeCasts_S2048x16_S1x2048x16) shapeCasts_S1x2048x16_S1x2048x16)
          broadcasts_S1x2048x16_S8x2048x16) shapeCasts_S8x2048x16_S16384x16⟩] concatenates_S16384x3_S16384x16_S16384x19_d1) W1
      (constant S16384x64 .f32 0x00000000#32))
      (broadcastTo S16384x64 (shapeCast S1x64 v1 shapeCasts_S64_S1x64) broadcasts_S1x64_S16384x64))
      (broadcast S16384x64 (Scalar.ofBits .f32 0x00000000#32))) W2 (constant S16384x64 .f32 0x00000000#32))
    (broadcastTo S16384x64 (shapeCast S1x64 v2 shapeCasts_S64_S1x64) broadcasts_S1x64_S16384x64))
    (broadcast S16384x64 (Scalar.ofBits .f32 0x00000000#32))

/-- The group encoder's hidden layers at a row. -/
theorem hidV_apply (x : FVec Ideal S8x2048x3 .f32) (r : FVec Ideal S2048x16 .f32) (W1 : FVec Ideal S19x64 .f32)
    (v1 : FVec Ideal S64 .f32) (W2 : FVec Ideal S64x64 .f32) (v2 : FVec Ideal S64 .f32) (i : Fin 16384) (j : Fin 64) :
    hidV x r W1 v1 W2 v2 (ix2 i j) = Model.relu (fun j => max (∑ k : Fin 3, x (ix3 ⟨i.val / 2048, by omega⟩ ⟨i.val % 2048, by omega⟩ k) * W1 (ix2 ⟨k.val, by omega⟩ j)
      + ∑ k : Fin 16, r (ix2 ⟨i.val % 2048, by omega⟩ k) * W1 (ix2 ⟨3 + k.val, by omega⟩ j) + v1 (ix1 j)) 0) W2 v2 j := by
  pointwise [hidV]
  rfl

/-- A block's sum over its points. -/
def sumV (h : FVec Ideal S16384x64 .f32) : FVec Ideal S8x64 .f32 :=
  multiReduction .add [1] S8x64 (shapeCast S8x2048x64 h shapeCasts_S16384x64_S8x2048x64) 0x00000000#32 reduces_S8x2048x64_S8x64 (.inl rfl) rfl

/-- A block's sum at an entry. -/
theorem sumV_apply (h : FVec Ideal S16384x64 .f32) (b : Fin 8) (j : Fin 64) :
    sumV h (ix2 b j) = ∑ r : Fin 2048, h (ix2 ⟨b.val * 2048 + r.val, by omega⟩ j) := by
  pointwise [sumV]

/-- The accumulated sum is the old one plus the block's. -/
theorem acc_apply (x : FVec Ideal S8x2048x3 .f32) (r : FVec Ideal S2048x16 .f32) (W1 : FVec Ideal S19x64 .f32)
    (v1 : FVec Ideal S64 .f32) (W2 : FVec Ideal S64x64 .f32) (v2 : FVec Ideal S64 .f32) (s : FVec Ideal S8x64 .f32)
    (b : Fin 8) (j : Fin 64) :
    @Eq EReal (k0_pay4 (F := Ideal) x r W1 v1 W2 v2 s (ix2 b j)) (s (ix2 b j) + sumV (hidV x r W1 v1 W2 v2) (ix2 b j)) := by
  rw [show k0_pay4 (F := Ideal) x r W1 v1 W2 v2 s = addf (shapeCast S8x64 s shapeCasts_S8x64_S8x64) (sumV (hidV x r W1 v1 W2 v2)) from rfl]
  generalize sumV (hidV x r W1 v1 W2 v2) = z
  pointwise

/-- The latent at an entry. -/
theorem lat_apply (s : FVec Ideal S8x64 .f32) (W : FVec Ideal S64x64 .f32) (v : FVec Ideal S64 .f32) (b : Fin 8) (j : Fin 64) :
    @Eq EReal (k0_pay1 (F := Ideal) s W v (ix2 b j)) (Model.dense (fun k => s (ix2 b k) * Ideal.ofBits FTy.f32 0x39000000#32) W v j) := by
  pointwise [k0_pay1]
  rfl

/-- The latent's row of the decoder at an entry. -/
theorem row_apply (s : FVec Ideal S8x64 .f32) (W : FVec Ideal S64x64 .f32) (v : FVec Ideal S64 .f32) (W' : FVec Ideal S64x64 .f32)
    (v' : FVec Ideal S64 .f32) (b : Fin 8) (j : Fin 64) :
    @Eq EReal (k0_pay2 (F := Ideal) s W v W' v' (ix2 b j)) (Model.dense (fun k => k0_pay1 (F := Ideal) s W v (ix2 b k)) W' v' j) := by
  pointwise [k0_pay2]
  rfl

end Cert.Proof.Kern
-- ==== Proof.KernelBlk.lean ====
/- The two kernels' windows: each input block read off its array, and what each point leaves in its outputs. -/
module

public import proofs.«01_k».proof.Proof.KernelPay

@[expose] public section

set_option maxRecDepth 16384

noncomputable section

namespace Cert.Proof.Kern

open Cert.KernelIdeal Cert.KernelIdeal.Gen Idealize.ShloMosaic Idealize.ShloMosaic.TcCoe Idealize.SL.Sem

-- what the buffers hold when a region is entered
variable (V : (c : Dev nD) → (b : Ref sig .tc) → Buf (Elt Ideal) ((c : Thread nD τ).loc b)) (c : Dev nD)

/-- Which block each window of kernel 1 holds at a point. -/
theorem idx0 : ∀ t : Fin cfg0.N, win0_0.index t = ![0, t.val, 0] ∧ win0_1.index t = ![t.val, 0] ∧ win0_2.index t = ![0, 0] ∧ win0_3.index t = ![0] ∧ win0_4.index t = ![0, 0] ∧ win0_5.index t = ![0] ∧ win0_6.index t = ![0, 0] ∧ win0_7.index t = ![0] ∧ win0_8.index t = ![0, 0] ∧ win0_9.index t = ![0] :=
  (by decide +kernel : ∀ t : Fin grid0.N, _)

/-- Which block each window of kernel 2 holds at a point. -/
theorem idx1 : ∀ t : Fin cfg1.N, win1_0.index t = ![0, t.val, 0] ∧ win1_1.index t = ![t.val, 0] ∧ win1_2.index t = ![0, 0] ∧ win1_3.index t = ![0, 0] ∧ win1_4.index t = ![0, 0] ∧ win1_5.index t = ![0] ∧ win1_6.index t = ![0, 0] ∧ win1_7.index t = ![0] ∧ win1_8.index t = ![0, 0] ∧ win1_9.index t = ![0] ∧ win1_10.index t = ![0, 0] ∧ win1_11.index t = ![0, 0] ∧ win1_12.index t = ![0, 0] ∧ win1_13.index t = ![0] ∧ win1_14.index t = ![0, 0] ∧ win1_15.index t = ![0] ∧ win1_16.index t = ![0, t.val, 0] ∧ win1_17.index t = ![0, t.val, 0] :=
  (by decide +kernel : ∀ t : Fin grid1.N, _)

/-- A block of points of kernel 1. -/
theorem points0 (t : Fin cfg0.N) (b : Fin 8) (r : Fin 2048) (k : Fin 3) (h : t.val * 2048 + r.val < 8192) :
    @Eq EReal (iblk0 V c 0 t (ix3 b r k)) (V c main_arg0 (ix3 b ⟨t.val * 2048 + r.val, h⟩ k)) := by
  blk_ext [iblk0, idx0 t]

/-- A block of position bits of kernel 1. -/
theorem bits0 (t : Fin cfg0.N) (r : Fin 2048) (k : Fin 16) (h : t.val * 2048 + r.val < 8192) :
    @Eq EReal (iblk0 V c 1 t (ix2 r k)) (V c main_call0_v9 (ix2 ⟨t.val * 2048 + r.val, h⟩ k)) := by
  blk_ext [iblk0, idx0 t]

/-- Window 2 of kernel 1 is its whole array. -/
theorem whole0_2 (t : Fin cfg0.N) : iblk0 V c 2 t = V c main_arg1 := by
  funext y
  idx_vars y
  blk_ext [iblk0, idx0 t]

/-- Window 3 of kernel 1 is its whole array. -/
theorem whole0_3 (t : Fin cfg0.N) : iblk0 V c 3 t = V c main_arg2 := by
  funext y
  idx_vars y
  blk_ext [iblk0, idx0 t]

/-- Window 4 of kernel 1 is its whole array. -/
theorem whole0_4 (t : Fin cfg0.N) : iblk0 V c 4 t = V c main_arg3 := by
  funext y
  idx_vars y
  blk_ext [iblk0, idx0 t]

/-- Window 5 of kernel 1 is its whole array. -/
theorem whole0_5 (t : Fin cfg0.N) : iblk0 V c 5 t = V c main_arg4 := by
  funext y
  idx_vars y
  blk_ext [iblk0, idx0 t]

/-- Window 6 of kernel 1 is its whole array. -/
theorem whole0_6 (t : Fin cfg0.N) : iblk0 V c 6 t = V c main_arg5 := by
  funext y
  idx_vars y
  blk_ext [iblk0, idx0 t]

/-- Window 7 of kernel 1 is its whole array. -/
theorem whole0_7 (t : Fin cfg0.N) : iblk0 V c 7 t = V c main_arg6 := by
  funext y
  idx_vars y
  blk_ext [iblk0, idx0 t]

/-- Window 8 of kernel 1 is its whole array. -/
theorem whole0_8 (t : Fin cfg0.N) : iblk0 V c 8 t = V c main_call0_v11 := by
  funext y
  idx_vars y
  blk_ext [iblk0, idx0 t]

/-- Window 9 of kernel 1 is its whole array. -/
theorem whole0_9 (t : Fin cfg0.N) : iblk0 V c 9 t = V c main_arg14 := by
  funext y
  idx_vars y
  blk_ext [iblk0, idx0 t]

/-- A block of points of kernel 2. -/
theorem points1 (t : Fin cfg1.N) (b : Fin 8) (r : Fin 512) (k : Fin 3) (h : t.val * 512 + r.val < 8192) :
    @Eq EReal (iblk1 V c 0 t (ix3 b r k)) (V c main_arg0 (ix3 b ⟨t.val * 512 + r.val, h⟩ k)) := by
  blk_ext [iblk1, idx1 t]

/-- A block of position bits of kernel 2. -/
theorem bits1 (t : Fin cfg1.N) (r : Fin 512) (k : Fin 16) (h : t.val * 512 + r.val < 8192) :
    @Eq EReal (iblk1 V c 1 t (ix2 r k)) (V c main_call0_v9 (ix2 ⟨t.val * 512 + r.val, h⟩ k)) := by
  blk_ext [iblk1, idx1 t]

/-- Window 2 of kernel 2 is its whole array. -/
theorem whole1_2 (t : Fin cfg1.N) : iblk1 V c 2 t = V c main_call0_v13_0 := by
  funext y
  idx_vars y
  blk_ext [iblk1, idx1 t]

/-- Window 3 of kernel 2 is its whole array. -/
theorem whole1_3 (t : Fin cfg1.N) : iblk1 V c 3 t = V c main_call0_v13_1 := by
  funext y
  idx_vars y
  blk_ext [iblk1, idx1 t]

/-- Window 4 of kernel 2 is its whole array. -/
theorem whole1_4 (t : Fin cfg1.N) : iblk1 V c 4 t = V c main_arg7 := by
  funext y
  idx_vars y
  blk_ext [iblk1, idx1 t]

/-- Window 5 of kernel 2 is its whole array. -/
theorem whole1_5 (t : Fin cfg1.N) : iblk1 V c 5 t = V c main_arg8 := by
  funext y
  idx_vars y
  blk_ext [iblk1, idx1 t]

/-- Window 6 of kernel 2 is its whole array. -/
theorem whole1_6 (t : Fin cfg1.N) : iblk1 V c 6 t = V c main_arg9 := by
  funext y
  idx_vars y
  blk_ext [iblk1, idx1 t]

/-- Window 7 of kernel 2 is its whole array. -/
theorem whole1_7 (t : Fin cfg1.N) : iblk1 V c 7 t = V c main_arg10 := by
  funext y
  idx_vars y
  blk_ext [iblk1, idx1 t]

/-- Window 8 of kernel 2 is its whole array. -/
theorem whole1_8 (t : Fin cfg1.N) : iblk1 V c 8 t = V c main_arg11 := by
  funext y
  idx_vars y
  blk_ext [iblk1, idx1 t]

/-- Window 9 of kernel 2 is its whole array. -/
theorem whole1_9 (t : Fin cfg1.N) : iblk1 V c 9 t = V c main_arg12 := by
  funext y
  idx_vars y
  blk_ext [iblk1, idx1 t]

/-- Window 10 of kernel 2 is its whole array. -/
theorem whole1_10 (t : Fin cfg1.N) : iblk1 V c 10 t = V c main_call0_v10 := by
  funext y
  idx_vars y
  blk_ext [iblk1, idx1 t]

/-- Window 11 of kernel 2 is its whole array. -/
theorem whole1_11 (t : Fin cfg1.N) : iblk1 V c 11 t = V c main_call0_v12 := by
  funext y
  idx_vars y
  blk_ext [iblk1, idx1 t]

/-- Window 12 of kernel 2 is its whole array. -/
theorem whole1_12 (t : Fin cfg1.N) : iblk1 V c 12 t = V c main_arg15 := by
  funext y
  idx_vars y
  blk_ext [iblk1, idx1 t]

/-- Window 13 of kernel 2 is its whole array. -/
theorem whole1_13 (t : Fin cfg1.N) : iblk1 V c 13 t = V c main_arg16 := by
  funext y
  idx_vars y
  blk_ext [iblk1, idx1 t]

/-- Window 14 of kernel 2 is its whole array. -/
theorem whole1_14 (t : Fin cfg1.N) : iblk1 V c 14 t = V c main_arg17 := by
  funext y
  idx_vars y
  blk_ext [iblk1, idx1 t]

/-- Window 15 of kernel 2 is its whole array. -/
theorem whole1_15 (t : Fin cfg1.N) : iblk1 V c 15 t = V c main_arg18 := by
  funext y
  idx_vars y
  blk_ext [iblk1, idx1 t]

/-- The first point leaves the first block's sum. -/
theorem sum_A (t : Fin cfg0.N) (h0 : t.val % 4 = 0) (h1 : ¬t.val % 4 = 3) :
    (outsAt0 V c t.val t.isLt).2.2 = k0_pay4 (F := Ideal) (iblk0 V c 0 t) (iblk0 V c 1 t) (iblk0 V c 2 t) (iblk0 V c 3 t) (iblk0 V c 4 t) (iblk0 V c 5 t) (k0_pay3 (F := Ideal)) := by
  rw [outsAt0_A V c t h0 h1]
  funext j
  frame_out

/-- A middle point adds its block's sum to what it finds. -/
theorem sum_B (t : Fin cfg0.N) (h0 : ¬t.val % 4 = 0) (h1 : ¬t.val % 4 = 3) :
    (outsAt0 V c t.val t.isLt).2.2 = k0_pay4 (F := Ideal) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2) := by
  rw [outsAt0_B V c t h0 h1]
  funext j
  frame_out

/-- The last point adds its block's sum to what it finds. -/
theorem sum_C (t : Fin cfg0.N) (h0 : ¬t.val % 4 = 0) (h1 : t.val % 4 = 3) :
    (outsAt0 V c t.val t.isLt).2.2 = k0_pay4 (F := Ideal) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2) := by
  rw [outsAt0_C V c t h0 h1]
  funext j
  frame_out

/-- The last point leaves the latent of the sum it has made. -/
theorem lat_C (t : Fin cfg0.N) (h0 : ¬t.val % 4 = 0) (h1 : t.val % 4 = 3) :
    (outsAt0 V c t.val t.isLt).1 = k0_pay1 (F := Ideal) (k0_pay4 (F := Ideal) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2)) (iblk0 V c 6 t) (iblk0 V c 7 t) := by
  rw [outsAt0_C V c t h0 h1]
  funext j
  frame_out

/-- The last point leaves the decoder's row of that latent. -/
theorem row_C (t : Fin cfg0.N) (h0 : ¬t.val % 4 = 0) (h1 : t.val % 4 = 3) :
    (outsAt0 V c t.val t.isLt).2.1 = k0_pay2 (F := Ideal) (k0_pay4 (F := Ideal) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2)) (iblk0 V c 6 t) (iblk0 V c 7 t) (iblk0 V c 8 t) (iblk0 V c 9 t) := by
  rw [outsAt0_C V c t h0 h1]
  funext j
  frame_out

/-- The second kernel's points at an entry, its blocks given. -/
theorem out16_eq (x0 : FVec Ideal S8x512x3 .f32) (x1 : FVec Ideal S512x16 .f32) (x2 : FVec Ideal S8x64 .f32) (x3 : FVec Ideal S8x64 .f32) (x4 : FVec Ideal S83x64 .f32) (x5 : FVec Ideal S64 .f32) (x6 : FVec Ideal S64x64 .f32) (x7 : FVec Ideal S64 .f32) (x8 : FVec Ideal S64x512 .f32) (x9 : FVec Ideal S512 .f32) (x10 : FVec Ideal S16x64 .f32) (x11 : FVec Ideal S512x64 .f32) (x12 : FVec Ideal S64x64 .f32) (x13 : FVec Ideal S64 .f32) (x14 : FVec Ideal S64x3 .f32) (x15 : FVec Ideal S3 .f32) (y : S8x512x3.Idx) :
    out1_16 (F := Ideal) x0 x1 x2 x3 x4 x5 x6 x7 x8 x9 x10 x11 x12 x13 x14 x15 y = k1_pay1 (F := Ideal) (k1_pay6 (k1_pay2 x1) (k1_pay3 x0 x1 x2 x4 x5 x6 x7 x8 x9) x3 x10 x11 x12 x13 x14 x15) y := by
  unfold_out out1_16
  frame_out

/-- The second kernel's marks at an entry, its blocks given. -/
theorem out17_eq (x0 : FVec Ideal S8x512x3 .f32) (x1 : FVec Ideal S512x16 .f32) (x2 : FVec Ideal S8x64 .f32) (x3 : FVec Ideal S8x64 .f32) (x4 : FVec Ideal S83x64 .f32) (x5 : FVec Ideal S64 .f32) (x6 : FVec Ideal S64x64 .f32) (x7 : FVec Ideal S64 .f32) (x8 : FVec Ideal S64x512 .f32) (x9 : FVec Ideal S512 .f32) (x10 : FVec Ideal S16x64 .f32) (x11 : FVec Ideal S512x64 .f32) (x12 : FVec Ideal S64x64 .f32) (x13 : FVec Ideal S64 .f32) (x14 : FVec Ideal S64x3 .f32) (x15 : FVec Ideal S3 .f32) (y : S8x512x512.Idx) :
    out1_17 (F := Ideal) x0 x1 x2 x3 x4 x5 x6 x7 x8 x9 x10 x11 x12 x13 x14 x15 y = k1_pay5 (F := Ideal) (k1_pay3 x0 x1 x2 x4 x5 x6 x7 x8 x9) y := by
  unfold_out out1_17
  frame_out

end Cert.Proof.Kern
-- ==== Proof.KernelVal.lean ====
/- The two kernels' result arrays: every entry is the model's. -/
module

public import proofs.«01_k».proof.Proof.KernelBlk

@[expose] public section

set_option maxRecDepth 16384

noncomputable section

namespace Cert.Proof.Kern

open Cert.KernelIdeal Cert.KernelIdeal.Gen Idealize.ShloMosaic Idealize.ShloMosaic.TcCoe Idealize.SL.Sem

/-! ## The blocks' values, over arrays of plain types -/

section Blocks

variable (a : Model.Args)

/-- The sum of the second hidden layer over one block of points. -/
def blockSum (t : Fin 4) (b : Fin 8) (j : Fin 64) : EReal :=
  ∑ q : Fin 2048, Model.g2 a b ⟨t.val * 2048 + q.val, by omega⟩ j

/-- A block's sum, computed over the block's rows. -/
theorem block_sum (t : Fin 4) (x : FVec Ideal S8x2048x3 .f32) (r : FVec Ideal S2048x16 .f32)
    (hx : ∀ b q k, @Eq EReal (x (ix3 b q k)) (a.x (ix3 b ⟨t.val * 2048 + q.val, by omega⟩ k)))
    (hr : ∀ q k, @Eq EReal (r (ix2 q k)) (Model.bit ⟨t.val * 2048 + q.val, by omega⟩ k)) (b : Fin 8) (j : Fin 64) :
    @Eq EReal (sumV (hidV x r a.gW1 a.gb1 a.gW2 a.gb2) (ix2 b j)) (blockSum a t b j) := by
  rw [sumV_apply]
  refine Finset.sum_congr rfl fun q _ => ?_
  rw [hidV_apply]
  refine congrArg (fun h => Model.relu h a.gW2 a.gb2 j) (funext fun i => ?_)
  have e1 : (⟨(b.val * 2048 + q.val) / 2048, by omega⟩ : Fin 8) = b := Fin.ext (by dsimp only; omega)
  have e2 : (⟨(b.val * 2048 + q.val) % 2048, by omega⟩ : Fin 2048) = q := Fin.ext (by dsimp only; omega)
  simp only [e1, e2, hx, hr]
  rfl

/-- The blocks' sums make up the whole sum. -/
theorem hsum_eq (b : Fin 8) (j : Fin 64) : ∑ t : Fin 4, blockSum a t b j = Model.hsum a b j :=
  Fin.sum_mul_add_fin 4 2048 (fun n : Fin 8192 => Model.g2 a b n j)

/-- The printed reciprocal of the number of points is the quotient by it. -/
theorem mean_eq (s : EReal) :
    s * Ideal.ofBits FTy.f32 0x39000000#32 = Ideal.div s (Ideal.ofBits FTy.f32 1174405120#32) := by
  have e1 : Ideal.ofBits FTy.f32 0x39000000#32 = ((1 / 8192 : ℝ) : EReal) := by
    simp [Ideal.ofBits, Ideal.ieee, -EReal.coe_mul]
    norm_num
  have e2 : Ideal.ofBits FTy.f32 1174405120#32 = ((8192 : ℝ) : EReal) := by
    simp [Ideal.ofBits, Ideal.ieee, -EReal.coe_mul]
    norm_num
  rw [e1, e2, Ideal.div_coe (by norm_num : (8192 : ℝ) ≠ 0)]

/-- The latent, from the whole sum. -/
theorem lat_value (s : FVec Ideal S8x64 .f32) (hs : ∀ b j, @Eq EReal (s (ix2 b j)) (Model.hsum a b j)) (b : Fin 8) (j : Fin 64) :
    @Eq EReal (k0_pay1 (F := Ideal) s a.gW3 a.gb3 (ix2 b j)) (Model.u a b j) := by
  rw [lat_apply]
  refine congrArg (fun h => Model.dense h a.gW3 a.gb3 j) (funext fun k => ?_)
  rw [hs, mean_eq]

/-- The latent's row of the decoder. -/
def urow (b : Fin 8) (j : Fin 64) : EReal :=
  ∑ k : Fin 64, Model.u a b k * a.dW1 (ix2 ⟨16 + k.val, by omega⟩ j) + a.db1 (ix1 j)

/-- The latent's row, from the whole sum. -/
theorem row_value (s : FVec Ideal S8x64 .f32) (hs : ∀ b j, @Eq EReal (s (ix2 b j)) (Model.hsum a b j))
    (W : FVec Ideal S64x64 .f32) (hW : ∀ k j, @Eq EReal (W (ix2 k j)) (a.dW1 (ix2 ⟨16 + k.val, by omega⟩ j))) (b : Fin 8) (j : Fin 64) :
    @Eq EReal (k0_pay2 (F := Ideal) s a.gW3 a.gb3 W a.db1 (ix2 b j)) (urow a b j) := by
  rw [row_apply]
  unfold Model.dense urow
  refine congrArg (fun t : EReal => t + a.db1 (ix1 j)) (Finset.sum_congr rfl fun k _ => ?_)
  rw [hW]
  exact congrArg (fun z : EReal => z * a.dW1 (ix2 ⟨16 + k.val, by omega⟩ j)) (lat_value a s hs b k)

/-- A block of logits. -/
def blockLg (x : FVec Ideal S8x512x3 .f32) (r : FVec Ideal S512x16 .f32) (u : FVec Ideal S8x64 .f32) : FVec Ideal S4096x512 .f32 :=
  k1_pay3 (F := Ideal) x r u a.iW1 a.ib1 a.iW2 a.ib2 a.iW3 a.ib3

/-- The logits of a block's row. -/
theorem lg_value (t : Fin 16) (x : FVec Ideal S8x512x3 .f32) (r : FVec Ideal S512x16 .f32) (u : FVec Ideal S8x64 .f32)
    (hx : ∀ b q k, @Eq EReal (x (ix3 b q k)) (a.x (ix3 b ⟨t.val * 512 + q.val, by omega⟩ k)))
    (hr : ∀ q k, @Eq EReal (r (ix2 q k)) (Model.bit ⟨t.val * 512 + q.val, by omega⟩ k))
    (hu : ∀ b j, @Eq EReal (u (ix2 b j)) (Model.u a b j))
    (b : Fin 8) (q : Fin 512) :
    (fun k => blockLg a x r u (ix2 ⟨b.val * 512 + q.val, by omega⟩ k)) = Model.lg a b ⟨t.val * 512 + q.val, by omega⟩ := by
  funext k
  unfold blockLg
  refine (pay3_apply x r u a.iW1 a.ib1 a.iW2 a.ib2 a.iW3 a.ib3 ⟨b.val * 512 + q.val, by omega⟩ k).trans ?_
  refine congrArg (fun h => Model.dense (Model.relu h a.iW2 a.ib2) a.iW3 a.ib3 k) (funext fun i => ?_)
  have e1 : (⟨(b.val * 512 + q.val) / 512, by omega⟩ : Fin 8) = b := Fin.ext (by dsimp only; omega)
  have e2 : (⟨(b.val * 512 + q.val) % 512, by omega⟩ : Fin 512) = q := Fin.ext (by dsimp only; omega)
  simp only [e1, e2, hx, hr, hu]
  rfl

/-- The marks of a block. -/
theorem hot_value (t : Fin 16) (x : FVec Ideal S8x512x3 .f32) (r : FVec Ideal S512x16 .f32) (u : FVec Ideal S8x64 .f32)
    (hx : ∀ b q k, @Eq EReal (x (ix3 b q k)) (a.x (ix3 b ⟨t.val * 512 + q.val, by omega⟩ k)))
    (hr : ∀ q k, @Eq EReal (r (ix2 q k)) (Model.bit ⟨t.val * 512 + q.val, by omega⟩ k))
    (hu : ∀ b j, @Eq EReal (u (ix2 b j)) (Model.u a b j))
    (b : Fin 8) (q : Fin 512) (k : Fin 512) :
    @Eq EReal (k1_pay5 (F := Ideal) (blockLg a x r u) (ix3 b q k)) (Model.hot (Model.lg a b ⟨t.val * 512 + q.val, by omega⟩) k) := by
  rw [pay5_apply, lg_value a t x r u hx hr hu]

/-- The marks of a block, by rows. -/
theorem mark_value (t : Fin 16) (x : FVec Ideal S8x512x3 .f32) (r : FVec Ideal S512x16 .f32) (u : FVec Ideal S8x64 .f32)
    (hx : ∀ b q k, @Eq EReal (x (ix3 b q k)) (a.x (ix3 b ⟨t.val * 512 + q.val, by omega⟩ k)))
    (hr : ∀ q k, @Eq EReal (r (ix2 q k)) (Model.bit ⟨t.val * 512 + q.val, by omega⟩ k))
    (hu : ∀ b j, @Eq EReal (u (ix2 b j)) (Model.u a b j))
    (b : Fin 8) (q : Fin 512) (k : Fin 512) :
    @Eq EReal (k1_pay4 (F := Ideal) (blockLg a x r u) (ix2 ⟨b.val * 512 + q.val, by omega⟩ k))
      (Model.hot (Model.lg a b ⟨t.val * 512 + q.val, by omega⟩) k) := by
  rw [pay4_apply, lg_value a t x r u hx hr hu]

/-- The decoded points of a block. -/
theorem out_value (t : Fin 16) (x : FVec Ideal S8x512x3 .f32) (r : FVec Ideal S512x16 .f32) (u : FVec Ideal S8x64 .f32)
    (hx : ∀ b q k, @Eq EReal (x (ix3 b q k)) (a.x (ix3 b ⟨t.val * 512 + q.val, by omega⟩ k)))
    (hr : ∀ q k, @Eq EReal (r (ix2 q k)) (Model.bit ⟨t.val * 512 + q.val, by omega⟩ k))
    (hu : ∀ b j, @Eq EReal (u (ix2 b j)) (Model.u a b j))
    (ur : FVec Ideal S8x64 .f32) (Wr : FVec Ideal S16x64 .f32) (Wv : FVec Ideal S512x64 .f32)
    (hur : ∀ b j, @Eq EReal (ur (ix2 b j)) (urow a b j))
    (hWr : ∀ k j, @Eq EReal (Wr (ix2 k j)) (a.dW1 (ix2 ⟨k.val, by omega⟩ j)))
    (hWv : ∀ k j, @Eq EReal (Wv (ix2 k j)) (a.dW1 (ix2 ⟨16 + 64 + k.val, by omega⟩ j)))
    (b : Fin 8) (q : Fin 512) (k : Fin 3) :
    @Eq EReal (k1_pay1 (F := Ideal) (k1_pay6 (k1_pay2 r) (blockLg a x r u) ur Wr Wv a.dW2 a.db2 a.dW3 a.db3) (ix3 b q k))
      (Model.out a b ⟨t.val * 512 + q.val, by omega⟩ k) := by
  rw [pay1_apply, pay6_apply]
  refine congrArg (fun h => Model.dense (Model.relu h a.dW2 a.db2) a.dW3 a.db3 k) (funext fun i => ?_)
  have e1 : (⟨(b.val * 512 + q.val) / 512, by omega⟩ : Fin 8) = b := Fin.ext (by dsimp only; omega)
  have e2 : (⟨(b.val * 512 + q.val) % 512, by omega⟩ : Fin 512) = q := Fin.ext (by dsimp only; omega)
  simp only [pay2_apply, mark_value a t x r u hx hr hu, e1, e2, hr, hur, hWr, hWv]
  unfold Model.d1 urow
  rw [← add_assoc, add_right_comm (∑ k : Fin 16, Model.bit _ k * a.dW1 (ix2 ⟨k.val, by omega⟩ i))]

end Blocks

/-! ## The arrays -/

/-- What a region finds: the arguments, the position bits and the decoder's weights cut in three. -/
structure Entry (V : (c : Dev nD) → (b : Ref sig .tc) → Buf (Elt Ideal) ((c : Thread nD τ).loc b)) (c : Dev nD) (a : Model.Args) : Prop where
  x : @Eq (Model.A3 8 8192 3) (V c main_arg0) a.x
  gW1 : @Eq (Model.A2 19 64) (V c main_arg1) a.gW1
  gb1 : @Eq (Model.A1 64) (V c main_arg2) a.gb1
  gW2 : @Eq (Model.A2 64 64) (V c main_arg3) a.gW2
  gb2 : @Eq (Model.A1 64) (V c main_arg4) a.gb2
  gW3 : @Eq (Model.A2 64 64) (V c main_arg5) a.gW3
  gb3 : @Eq (Model.A1 64) (V c main_arg6) a.gb3
  iW1 : @Eq (Model.A2 83 64) (V c main_arg7) a.iW1
  ib1 : @Eq (Model.A1 64) (V c main_arg8) a.ib1
  iW2 : @Eq (Model.A2 64 64) (V c main_arg9) a.iW2
  ib2 : @Eq (Model.A1 64) (V c main_arg10) a.ib2
  iW3 : @Eq (Model.A2 64 512) (V c main_arg11) a.iW3
  ib3 : @Eq (Model.A1 512) (V c main_arg12) a.ib3
  dW1 : @Eq (Model.A2 592 64) (V c main_arg13) a.dW1
  db1 : @Eq (Model.A1 64) (V c main_arg14) a.db1
  dW2 : @Eq (Model.A2 64 64) (V c main_arg15) a.dW2
  db2 : @Eq (Model.A1 64) (V c main_arg16) a.db2
  dW3 : @Eq (Model.A2 64 3) (V c main_arg17) a.dW3
  db3 : @Eq (Model.A1 3) (V c main_arg18) a.db3
  bits : ∀ n k, @Eq EReal (V c main_call0_v9 (ix2 n k)) (Model.bit n k)
  rows0 : ∀ (k : Fin 16) (j : Fin 64), @Eq EReal (V c main_call0_v10 (ix2 k j)) (a.dW1 (ix2 ⟨k.val, by omega⟩ j))
  rows1 : ∀ (k : Fin 64) (j : Fin 64), @Eq EReal (V c main_call0_v11 (ix2 k j)) (a.dW1 (ix2 ⟨16 + k.val, by omega⟩ j))
  rows2 : ∀ (k : Fin 512) (j : Fin 64), @Eq EReal (V c main_call0_v12 (ix2 k j)) (a.dW1 (ix2 ⟨16 + 64 + k.val, by omega⟩ j))

section Arrays

variable (V : (c : Dev nD) → (b : Ref sig .tc) → Buf (Elt Ideal) ((c : Thread nD τ).loc b)) (c : Dev nD) (a : Model.Args)

/-- What a point of the first kernel adds to the sum. -/
theorem point_sum (E : Entry V c a) (t : Fin cfg0.N) (ht : t.val < 4) (s : FVec Ideal S8x64 .f32) (b : Fin 8) (j : Fin 64) :
    @Eq EReal (k0_pay4 (F := Ideal) (iblk0 V c 0 t) (iblk0 V c 1 t) (iblk0 V c 2 t) (iblk0 V c 3 t) (iblk0 V c 4 t) (iblk0 V c 5 t) s (ix2 b j))
      (s (ix2 b j) + blockSum a ⟨t.val, ht⟩ b j) := by
  rw [whole0_2, whole0_3, whole0_4, whole0_5]
  refine (acc_apply _ _ _ _ _ _ s b j).trans ?_
  refine congrArg (fun z : EReal => s (ix2 b j) + z) ?_
  refine Eq.trans ?_ (block_sum a ⟨t.val, ht⟩ (iblk0 V c 0 t) (iblk0 V c 1 t)
    (fun b q k => (points0 V c t b q k (by omega)).trans (congrFun E.x _))
    (fun q k => (bits0 V c t q k (by omega)).trans (E.bits _ k)) b j)
  rw [← E.gW1, ← E.gb1, ← E.gW2, ← E.gb2]

/-- The sum after the first point. -/
theorem acc_first (E : Entry V c a) (h : 0 < cfg0.N) (b : Fin 8) (j : Fin 64) :
    @Eq EReal ((outsAt0 V c 0 h).2.2 (ix2 b j)) (blockSum a 0 b j) := by
  have e := sum_A V c ⟨0, h⟩ rfl (by dsimp only; omega)
  refine (congrFun e (ix2 b j)).trans ((point_sum V c a E ⟨0, h⟩ (by dsimp only; omega) _ b j).trans ?_)
  rw [acc0_apply, zero_add]
  rfl

/-- The sum after a later point. -/
theorem acc_step (E : Entry V c a) (n : ℕ) (h : n + 1 < cfg0.N) (hn : n + 1 < 4) (b : Fin 8) (j : Fin 64) :
    @Eq EReal ((outsAt0 V c (n + 1) h).2.2 (ix2 b j))
      ((outsAt0 V c n (Nat.lt_of_succ_lt h)).2.2 (ix2 b j) + blockSum a ⟨n + 1, hn⟩ b j) := by
  by_cases h1 : (n + 1) % 4 = 3
  · have e := sum_C V c ⟨n + 1, h⟩ (by dsimp only; omega) h1
    exact (congrFun e (ix2 b j)).trans (point_sum V c a E ⟨n + 1, h⟩ hn _ b j)
  · have e := sum_B V c ⟨n + 1, h⟩ (by dsimp only; omega) h1
    exact (congrFun e (ix2 b j)).trans (point_sum V c a E ⟨n + 1, h⟩ hn _ b j)

/-- The sum after the last point is the whole sum. -/
theorem acc_last (E : Entry V c a) (h : 3 < cfg0.N) (b : Fin 8) (j : Fin 64) :
    @Eq EReal ((outsAt0 V c 3 h).2.2 (ix2 b j)) (Model.hsum a b j) := by
  rw [acc_step V c a E 2 h (by decide), acc_step V c a E 1 _ (by decide), acc_step V c a E 0 _ (by decide),
    acc_first V c a E, ← hsum_eq, Fin.sum_univ_four]
  rfl

/-- The first kernel's latent. -/
theorem u_final (E : Entry V c a) (b : Fin 8) (j : Fin 64) : @Eq EReal ((dat0 V c).arrAt 10 cfg0.N (ix2 b j)) (Model.u a b j) := by
  have e : (dat0 V c).arrAt 10 cfg0.N = fun y => Model.u a (y 0) (y 1) := by
    refine (dat0 V c).arrAt_eq_of_after_last 10 t0_3 (by decide +kernel) _ fun y => ?_
    blk_simp
    rw [after0_10, lat_C V c t0_3 (by decide) (by decide), ← sum_C V c t0_3 (by decide) (by decide), whole0_6, whole0_7]
    obtain ⟨b, k, rfl⟩ : ∃ (b : Fin 8) (k : Fin 64), y = ix2 b k := ⟨y 0, y 1, eq_ix2 y⟩
    refine Eq.trans ?_ (lat_value a _ (acc_last V c a E (by decide)) b k)
    rw [← E.gW3, ← E.gb3]
    rfl
  rw [e]
  rfl

/-- The first kernel's row of the decoder. -/
theorem row_final (E : Entry V c a) (b : Fin 8) (j : Fin 64) : @Eq EReal ((dat0 V c).arrAt 11 cfg0.N (ix2 b j)) (urow a b j) := by
  have e : (dat0 V c).arrAt 11 cfg0.N = fun y => urow a (y 0) (y 1) := by
    refine (dat0 V c).arrAt_eq_of_after_last 11 t0_3 (by decide +kernel) _ fun y => ?_
    blk_simp
    rw [after0_11, row_C V c t0_3 (by decide) (by decide), ← sum_C V c t0_3 (by decide) (by decide), whole0_6, whole0_7,
      whole0_8, whole0_9]
    obtain ⟨b, k, rfl⟩ : ∃ (b : Fin 8) (k : Fin 64), y = ix2 b k := ⟨y 0, y 1, eq_ix2 y⟩
    refine Eq.trans ?_ (row_value a _ (acc_last V c a E (by decide)) _ E.rows1 b k)
    rw [← E.gW3, ← E.gb3, ← E.db1]
    rfl
  rw [e]
  rfl

/-- The second kernel's marks. -/
theorem hot_final (E : Entry V c a) (hu : ∀ b j, @Eq EReal (V c main_call0_v13_0 (ix2 b j)) (Model.u a b j))
    (b : Fin 8) (n : Fin 8192) (k : Fin 512) :
    @Eq EReal ((dat1 V c).arrAt 17 cfg1.N (ix3 b n k)) (Model.hot (Model.lg a b n) k) := by
  have e : (dat1 V c).arrAt 17 cfg1.N = fun y => Model.hot (Model.lg a (y 0) (y 1)) (y 2) := by
    refine (dat1 V c).arrAt_eq_of_covers 17 _ (by decide +kernel) fun t hf y => ?_
    blk_simp
    rw [after1_17]
    obtain ⟨b, q, k, rfl⟩ : ∃ (b : Fin 8) (q : Fin 512) (k : Fin 512), y = ix3 b q k := ⟨y 0, y 1, y 2, eq_ix3 y⟩
    have ht : t.val < 16 := lt_of_lt_of_eq t.isLt N_1
    have e : (((cfg1.win 17).blk t).view.emb (ix3 b q k) : S8x8192x512.Idx) = ix3 b ⟨t.val * 512 + q.val, by omega⟩ k := by
      blk_ext [idx1 t]
    have hx : ∀ (b : Fin 8) (q : Fin 512) (k : Fin 3), @Eq EReal (iblk1 V c 0 t (ix3 b q k)) (a.x (ix3 b ⟨t.val * 512 + q.val, by omega⟩ k)) :=
      fun b q k => (points1 V c t b q k (by omega)).trans (congrFun E.x _)
    have hr : ∀ (q : Fin 512) (k : Fin 16), @Eq EReal (iblk1 V c 1 t (ix2 q k)) (Model.bit ⟨t.val * 512 + q.val, by omega⟩ k) :=
      fun q k => (bits1 V c t q k (by omega)).trans (E.bits _ k)
    rw [out17_eq, e, whole1_2, whole1_4, whole1_5, whole1_6, whole1_7, whole1_8, whole1_9]
    refine Eq.trans ?_ (hot_value a ⟨t.val, ht⟩ (iblk1 V c 0 t) (iblk1 V c 1 t) (V c main_call0_v13_0) hx hr hu b q k)
    unfold blockLg
    rw [← E.iW1, ← E.ib1, ← E.iW2, ← E.ib2, ← E.iW3, ← E.ib3]
  rw [e]
  rfl

set_option maxHeartbeats 1000000 in
/-- The second kernel's points. -/
theorem out_final (E : Entry V c a) (hu : ∀ b j, @Eq EReal (V c main_call0_v13_0 (ix2 b j)) (Model.u a b j))
    (hur : ∀ b j, @Eq EReal (V c main_call0_v13_1 (ix2 b j)) (urow a b j))
    (b : Fin 8) (n : Fin 8192) (k : Fin 3) :
    @Eq EReal ((dat1 V c).arrAt 16 cfg1.N (ix3 b n k)) (Model.out a b n k) := by
  have e : (dat1 V c).arrAt 16 cfg1.N = fun y => Model.out a (y 0) (y 1) (y 2) := by
    refine (dat1 V c).arrAt_eq_of_covers 16 _ (by decide +kernel) fun t hf y => ?_
    blk_simp
    rw [after1_16]
    obtain ⟨b, q, k, rfl⟩ : ∃ (b : Fin 8) (q : Fin 512) (k : Fin 3), y = ix3 b q k := ⟨y 0, y 1, y 2, eq_ix3 y⟩
    have ht : t.val < 16 := lt_of_lt_of_eq t.isLt N_1
    have e : (((cfg1.win 16).blk t).view.emb (ix3 b q k) : S8x8192x3.Idx) = ix3 b ⟨t.val * 512 + q.val, by omega⟩ k := by
      blk_ext [idx1 t]
    have hx : ∀ (b : Fin 8) (q : Fin 512) (k : Fin 3), @Eq EReal (iblk1 V c 0 t (ix3 b q k)) (a.x (ix3 b ⟨t.val * 512 + q.val, by omega⟩ k)) :=
      fun b q k => (points1 V c t b q k (by omega)).trans (congrFun E.x _)
    have hr : ∀ (q : Fin 512) (k : Fin 16), @Eq EReal (iblk1 V c 1 t (ix2 q k)) (Model.bit ⟨t.val * 512 + q.val, by omega⟩ k) :=
      fun q k => (bits1 V c t q k (by omega)).trans (E.bits _ k)
    rw [out16_eq, e, whole1_2, whole1_3, whole1_4, whole1_5, whole1_6, whole1_7, whole1_8, whole1_9, whole1_10, whole1_11,
      whole1_12, whole1_13, whole1_14, whole1_15]
    refine Eq.trans ?_ (out_value a ⟨t.val, ht⟩ (iblk1 V c 0 t) (iblk1 V c 1 t) (V c main_call0_v13_0) hx hr hu
      (V c main_call0_v13_1) (V c main_call0_v10) (V c main_call0_v12) hur E.rows0 E.rows2 b q k)
    unfold blockLg
    rw [← E.iW1, ← E.ib1, ← E.iW2, ← E.ib2, ← E.iW3, ← E.ib3, ← E.dW2, ← E.db2, ← E.dW3, ← E.db3]
  rw [e]
  rfl

end Arrays

end Cert.Proof.Kern
-- ==== Proof.KernelRun.lean ====
/- The idealized kernel's run with the contents of every buffer at its end: the launch of the two pipelines, its final
   state read whole. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: every unscoped buffer ends at the contents after region 1, every counter at zero. -/
theorem runAll : θ_run defs (onTc (τ := τ) (main (F := F))) ⟨m, fun _ => 0, ρ⟩ (fun r =>
    (∀ (c : Dev nD) (b : Ref sig .tc), Proc.devRef (τ := τ) .tc b ∈ Pipeline.ucRefs τ sig →
      r.2.mem ((c.tc : Thread nD τ).loc b) = W3 m ρ c (Proc.devRef .tc b))
    ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨fun c b hb => h c _ hb, funext fun g => hz g (.inr (no_unscoped g.2))⟩)

end Cert.KernelIdeal.Gen
-- ==== Proof.KernelEnd.lean ====
/- The kernel's run: its two results, entry by entry. -/
module

public import proofs.«01_k».proof.Proof.KernelVal
public import proofs.«01_k».proof.Proof.KernelRun

@[expose] public section

set_option maxRecDepth 16384

noncomputable section

namespace Cert.Proof.Kern

open Cert.KernelIdeal Cert.KernelIdeal.Gen Idealize.ShloMosaic Idealize.ShloMosaic.TcCoe Idealize.SL.Sem
open Idealize.ShloMosaic.StableHlo

/-- A cut of the decoder's weights, number 0. -/
theorem cut0 (W : FVec Ideal S592x64 .f32) (k : Fin 16) (j : Fin 64) :
    @Eq EReal (extractStridedSlice S16x64 ![0, 0] W slices_S592x64_S16x64_0_0 (ix2 k j)) (W (ix2 ⟨k.val, by omega⟩ j)) := by
  pointwise

/-- A cut of the decoder's weights, number 1. -/
theorem cut1 (W : FVec Ideal S592x64 .f32) (k : Fin 64) (j : Fin 64) :
    @Eq EReal (extractStridedSlice S64x64 ![16, 0] W slices_S592x64_S64x64_16_0 (ix2 k j)) (W (ix2 ⟨16 + k.val, by omega⟩ j)) := by
  pointwise

/-- A cut of the decoder's weights, number 2. -/
theorem cut2 (W : FVec Ideal S592x64 .f32) (k : Fin 512) (j : Fin 64) :
    @Eq EReal (extractStridedSlice S512x64 ![80, 0] W slices_S592x64_S512x64_80_0 (ix2 k j)) (W (ix2 ⟨16 + 64 + k.val, by omega⟩ j)) := by
  pointwise

/-- The position bits the host prepares. -/
theorem host_bits (V : Valuation τ sig (Elt Ideal)) (n : Fin 8192) (k : Fin 16) :
    @Eq EReal (after hostOps0 V (Proc.devRef .tc main_call0_v9) (ix2 n k)) (Model.bit n k) := by
  simp only [hostOps0]
  after_results_simp
  pointwise
  rfl

/-- The decoder's weights for the position bits. -/
theorem host_rows0 (V : Valuation τ sig (Elt Ideal)) (k : Fin 16) (j : Fin 64) :
    @Eq EReal (after hostOps0 V (Proc.devRef .tc main_call0_v10) (ix2 k j)) (V (Proc.devRef .tc main_arg13) (ix2 ⟨k.val, by omega⟩ j)) := by
  simp only [hostOps0]
  after_results_simp
  exact cut0 (V (Proc.devRef .tc main_arg13)) k j

/-- The decoder's weights for the latent. -/
theorem host_rows1 (V : Valuation τ sig (Elt Ideal)) (k : Fin 64) (j : Fin 64) :
    @Eq EReal (after hostOps0 V (Proc.devRef .tc main_call0_v11) (ix2 k j)) (V (Proc.devRef .tc main_arg13) (ix2 ⟨16 + k.val, by omega⟩ j)) := by
  simp only [hostOps0]
  after_results_simp
  exact cut1 (V (Proc.devRef .tc main_arg13)) k j

/-- The decoder's weights for the marks. -/
theorem host_rows2 (V : Valuation τ sig (Elt Ideal)) (k : Fin 512) (j : Fin 64) :
    @Eq EReal (after hostOps0 V (Proc.devRef .tc main_call0_v12) (ix2 k j)) (V (Proc.devRef .tc main_arg13) (ix2 ⟨16 + 64 + k.val, by omega⟩ j)) := by
  simp only [hostOps0]
  after_results_simp
  exact cut2 (V (Proc.devRef .tc main_arg13)) k j

variable (m : (ℓ : Loc nD τ sig) → Buf (Elt Ideal) ℓ) (ρ : Dev nD → PrngReg) (c : Dev nD)

/-- The arguments the memory holds. -/
def args : Model.Args where
  x := m ((c : Thread nD τ).loc main_arg0)
  gW1 := m ((c : Thread nD τ).loc main_arg1)
  gb1 := m ((c : Thread nD τ).loc main_arg2)
  gW2 := m ((c : Thread nD τ).loc main_arg3)
  gb2 := m ((c : Thread nD τ).loc main_arg4)
  gW3 := m ((c : Thread nD τ).loc main_arg5)
  gb3 := m ((c : Thread nD τ).loc main_arg6)
  iW1 := m ((c : Thread nD τ).loc main_arg7)
  ib1 := m ((c : Thread nD τ).loc main_arg8)
  iW2 := m ((c : Thread nD τ).loc main_arg9)
  ib2 := m ((c : Thread nD τ).loc main_arg10)
  iW3 := m ((c : Thread nD τ).loc main_arg11)
  ib3 := m ((c : Thread nD τ).loc main_arg12)
  dW1 := m ((c : Thread nD τ).loc main_arg13)
  db1 := m ((c : Thread nD τ).loc main_arg14)
  dW2 := m ((c : Thread nD τ).loc main_arg15)
  db2 := m ((c : Thread nD τ).loc main_arg16)
  dW3 := m ((c : Thread nD τ).loc main_arg17)
  db3 := m ((c : Thread nD τ).loc main_arg18)

/-- What the first kernel finds. -/
theorem entry1 : Entry (V1 m ρ) c (args m c) where
  x := W1_args m ρ c main_arg0 (by decide)
  gW1 := W1_args m ρ c main_arg1 (by decide)
  gb1 := W1_args m ρ c main_arg2 (by decide)
  gW2 := W1_args m ρ c main_arg3 (by decide)
  gb2 := W1_args m ρ c main_arg4 (by decide)
  gW3 := W1_args m ρ c main_arg5 (by decide)
  gb3 := W1_args m ρ c main_arg6 (by decide)
  iW1 := W1_args m ρ c main_arg7 (by decide)
  ib1 := W1_args m ρ c main_arg8 (by decide)
  iW2 := W1_args m ρ c main_arg9 (by decide)
  ib2 := W1_args m ρ c main_arg10 (by decide)
  iW3 := W1_args m ρ c main_arg11 (by decide)
  ib3 := W1_args m ρ c main_arg12 (by decide)
  dW1 := W1_args m ρ c main_arg13 (by decide)
  db1 := W1_args m ρ c main_arg14 (by decide)
  dW2 := W1_args m ρ c main_arg15 (by decide)
  db2 := W1_args m ρ c main_arg16 (by decide)
  dW3 := W1_args m ρ c main_arg17 (by decide)
  db3 := W1_args m ρ c main_arg18 (by decide)
  bits := fun n k => host_bits (W0 m ρ c) n k
  rows0 := fun k j => host_rows0 (W0 m ρ c) k j
  rows1 := fun k j => host_rows1 (W0 m ρ c) k j
  rows2 := fun k j => host_rows2 (W0 m ρ c) k j

/-- What the second kernel finds. -/
theorem entry2 : Entry (V2 m ρ) c (args m c) where
  x := W2_args m ρ c main_arg0 (by decide)
  gW1 := W2_args m ρ c main_arg1 (by decide)
  gb1 := W2_args m ρ c main_arg2 (by decide)
  gW2 := W2_args m ρ c main_arg3 (by decide)
  gb2 := W2_args m ρ c main_arg4 (by decide)
  gW3 := W2_args m ρ c main_arg5 (by decide)
  gb3 := W2_args m ρ c main_arg6 (by decide)
  iW1 := W2_args m ρ c main_arg7 (by decide)
  ib1 := W2_args m ρ c main_arg8 (by decide)
  iW2 := W2_args m ρ c main_arg9 (by decide)
  ib2 := W2_args m ρ c main_arg10 (by decide)
  iW3 := W2_args m ρ c main_arg11 (by decide)
  ib3 := W2_args m ρ c main_arg12 (by decide)
  dW1 := W2_args m ρ c main_arg13 (by decide)
  db1 := W2_args m ρ c main_arg14 (by decide)
  dW2 := W2_args m ρ c main_arg15 (by decide)
  db2 := W2_args m ρ c main_arg16 (by decide)
  dW3 := W2_args m ρ c main_arg17 (by decide)
  db3 := W2_args m ρ c main_arg18 (by decide)
  bits := fun n k => (congrFun (W2_of m ρ c main_call0_v9 (by decide +kernel)) (ix2 n k)).trans ((entry1 m ρ c).bits n k)
  rows0 := fun k j => (congrFun (W2_of m ρ c main_call0_v10 (by decide +kernel)) (ix2 k j)).trans ((entry1 m ρ c).rows0 k j)
  rows1 := fun k j => (congrFun (W2_of m ρ c main_call0_v11 (by decide +kernel)) (ix2 k j)).trans ((entry1 m ρ c).rows1 k j)
  rows2 := fun k j => (congrFun (W2_of m ρ c main_call0_v12 (by decide +kernel)) (ix2 k j)).trans ((entry1 m ρ c).rows2 k j)

/-- The latent the second kernel finds. -/
theorem u_found (b : Fin 8) (j : Fin 64) : @Eq EReal (V2 m ρ c main_call0_v13_0 (ix2 b j)) (Model.u (args m c) b j) :=
  (congrFun (W2_arr m ρ c 10) (ix2 b j)).trans (u_final (V1 m ρ) c (args m c) (entry1 m ρ c) b j)

/-- The latent's row the second kernel finds. -/
theorem row_found (b : Fin 8) (j : Fin 64) : @Eq EReal (V2 m ρ c main_call0_v13_1 (ix2 b j)) (urow (args m c) b j) :=
  (congrFun (W2_arr m ρ c 11) (ix2 b j)).trans (row_final (V1 m ρ) c (args m c) (entry1 m ρ c) b j)

/-- The kernel's points. -/
theorem out_read (b : Fin 8) (n : Fin 8192) (k : Fin 3) :
    @Eq EReal (W3 m ρ c (Proc.devRef .tc main_v0_0) (ix3 b n k)) (Model.out (args m c) b n k) :=
  (congrFun (W3_arr m ρ c 16) (ix3 b n k)).trans
    (out_final (V2 m ρ) c (args m c) (entry2 m ρ c) (u_found m ρ c) (row_found m ρ c) b n k)

/-- The kernel's marks. -/
theorem hot_read (b : Fin 8) (n : Fin 8192) (k : Fin 512) :
    @Eq EReal (W3 m ρ c (Proc.devRef .tc main_v0_1) (ix3 b n k)) (Model.hot (Model.lg (args m c) b n) k) :=
  (congrFun (W3_arr m ρ c 17) (ix3 b n k)).trans
    (hot_final (V2 m ρ) c (args m c) (entry2 m ρ c) (u_found m ρ c) b n k)

end Cert.Proof.Kern
-- ==== Proof.RefVal.lean ====
/- What each group of the reference's operations leaves, read at an index. -/
module

public import proofs.«01_k».proof.Proof.RefRun
public import proofs.«01_k».proof.Proof.Model
public import Idealize.ShloMosaic.Lib.Pointwise
public import Idealize.ShloMosaic.Lib.Pipeline.ValueKit
public import Idealize.ShloMosaic.Lib.StableHlo.RunRead

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo

/-- The arguments the contents `V` hold. -/
def args (V : Valuation τ sig (Elt Ideal)) : Model.Args where
  x := V (Proc.devRef .tc main_arg0)
  gW1 := V (Proc.devRef .tc main_arg1)
  gb1 := V (Proc.devRef .tc main_arg2)
  gW2 := V (Proc.devRef .tc main_arg3)
  gb2 := V (Proc.devRef .tc main_arg4)
  gW3 := V (Proc.devRef .tc main_arg5)
  gb3 := V (Proc.devRef .tc main_arg6)
  iW1 := V (Proc.devRef .tc main_arg7)
  ib1 := V (Proc.devRef .tc main_arg8)
  iW2 := V (Proc.devRef .tc main_arg9)
  ib2 := V (Proc.devRef .tc main_arg10)
  iW3 := V (Proc.devRef .tc main_arg11)
  ib3 := V (Proc.devRef .tc main_arg12)
  dW1 := V (Proc.devRef .tc main_arg13)
  db1 := V (Proc.devRef .tc main_arg14)
  dW2 := V (Proc.devRef .tc main_arg15)
  db2 := V (Proc.devRef .tc main_arg16)
  dW3 := V (Proc.devRef .tc main_arg17)
  db3 := V (Proc.devRef .tc main_arg18)

/-- The first hidden layer of the point encoder, whole. -/
def encV (x : FVec Ideal S8x8192x3 .f32) (r : FVec Ideal S8x8192x16 .f32) (u : FVec Ideal S8x8192x64 .f32)
    (W : FVec Ideal S83x64 .f32) (v : FVec Ideal S64 .f32) : FVec Ideal S8x8192x64 .f32 :=
  maximumf (addf (Host.dotGeneral dot_S8x8192x83_S83x64_S8x8192x64_2_0_01_1_n_n none
      (concatenate S8x8192x83 2 [⟨S8x8192x3, x⟩, ⟨S8x8192x16, r⟩, ⟨S8x8192x64, u⟩]
        concatenates_S8x8192x3_S8x8192x16_S8x8192x64_S8x8192x83_d2) W)
    (broadcastInDim S8x8192x64 ![0, 1, 2] bcast_S1x1x64_S8x8192x64_0_1_2 (broadcastInDim S1x1x64 ![2] bcast_S64_S1x1x64_2 v)))
    (broadcastInDim S8x8192x64 ![] bcast_S_S8x8192x64 (constant S_ FTy.f32 0#32))

/-- The first hidden layer of the decoder, whole. -/
def decV (r : FVec Ideal S8x8192x16 .f32) (u : FVec Ideal S8x8192x64 .f32) (h : FVec Ideal S8x8192x512 .f32)
    (W : FVec Ideal S592x64 .f32) (v : FVec Ideal S64 .f32) : FVec Ideal S8x8192x64 .f32 :=
  maximumf (addf (Host.dotGeneral dot_S8x8192x592_S592x64_S8x8192x64_2_0_01_1_n_n none
      (concatenate S8x8192x592 2 [⟨S8x8192x16, r⟩, ⟨S8x8192x64, u⟩, ⟨S8x8192x512, h⟩]
        concatenates_S8x8192x16_S8x8192x64_S8x8192x512_S8x8192x592_d2) W)
    (broadcastInDim S8x8192x64 ![0, 1, 2] bcast_S1x1x64_S8x8192x64_0_1_2 (broadcastInDim S1x1x64 ![2] bcast_S64_S1x1x64_2 v)))
    (broadcastInDim S8x8192x64 ![] bcast_S_S8x8192x64 (constant S_ FTy.f32 0#32))

/-- The point encoder's first hidden layer at an index. -/
theorem encV_apply (x : FVec Ideal S8x8192x3 .f32) (r : FVec Ideal S8x8192x16 .f32) (u : FVec Ideal S8x8192x64 .f32)
    (W : FVec Ideal S83x64 .f32) (v : FVec Ideal S64 .f32) (b : Fin 8) (n : Fin 8192) (j : Fin 64) :
    encV x r u W v (ix3 b n j) = max (∑ k : Fin 3, x (ix3 b n k) * W (ix2 ⟨k.val, by omega⟩ j)
      + ∑ k : Fin 16, r (ix3 b n k) * W (ix2 ⟨3 + k.val, by omega⟩ j)
      + ∑ k : Fin 64, u (ix3 b n k) * W (ix2 ⟨3 + 16 + k.val, by omega⟩ j) + v (ix1 j)) 0 := by
  pointwise [encV]
  refine congrArg (fun t : EReal => max (t + v (ix1 j)) 0) ?_
  exact Model.sum_three 3 16 64 rfl (fun k => x (ix3 b n k)) (fun k => r (ix3 b n k)) (fun k => u (ix3 b n k))
    (fun k => W (ix2 k j))

/-- The decoder's first hidden layer at an index. -/
theorem decV_apply (r : FVec Ideal S8x8192x16 .f32) (u : FVec Ideal S8x8192x64 .f32) (h : FVec Ideal S8x8192x512 .f32)
    (W : FVec Ideal S592x64 .f32) (v : FVec Ideal S64 .f32) (b : Fin 8) (n : Fin 8192) (j : Fin 64) :
    decV r u h W v (ix3 b n j) = max (∑ k : Fin 16, r (ix3 b n k) * W (ix2 ⟨k.val, by omega⟩ j)
      + ∑ k : Fin 64, u (ix3 b n k) * W (ix2 ⟨16 + k.val, by omega⟩ j)
      + ∑ k : Fin 512, h (ix3 b n k) * W (ix2 ⟨16 + 64 + k.val, by omega⟩ j) + v (ix1 j)) 0 := by
  pointwise [decV]
  refine congrArg (fun t : EReal => max (t + v (ix1 j)) 0) ?_
  exact Model.sum_three 16 64 512 rfl (fun k => r (ix3 b n k)) (fun k => u (ix3 b n k)) (fun k => h (ix3 b n k))
    (fun k => W (ix2 k j))

/-- The position bits. -/
theorem pos_read (V : Valuation τ sig (Elt Ideal)) (b : Fin 8) (n : Fin 8192) (k : Fin 16) :
    @Eq EReal (after posOps V (Proc.devRef .tc main_v10) (ix3 b n k)) (Model.bit n k) := by
  simp only [posOps]
  after_results_simp
  pointwise
  rfl

/-- The position bits once more. -/
theorem pos2_read (V : Valuation τ sig (Elt Ideal)) (b : Fin 8) (n : Fin 8192) (k : Fin 16) :
    @Eq EReal (after posOps2 V (Proc.devRef .tc main_v71) (ix3 b n k)) (Model.bit n k) := by
  simp only [posOps2]
  after_results_simp
  pointwise
  rfl

/-- The group encoder's second hidden layer. -/
theorem group_read (V : Valuation τ sig (Elt Ideal))
    (hr : ∀ b n k, @Eq EReal (V (Proc.devRef .tc main_v10) (ix3 b n k)) (Model.bit n k))
    (b : Fin 8) (n : Fin 8192) (k : Fin 64) :
    @Eq EReal (after groupOps V (Proc.devRef .tc main_v21) (ix3 b n k)) (Model.g2 (args V) b n k) := by
  simp only [groupOps, TRef.binary, TRef.nullary, TRef.unary, TRef.toBuf, TRef.ofBuf, cast_eq]
  after_results_simp
  pointwise
  simp only [hr]
  rfl

/-- The group latent. -/
theorem latent_read (V : Valuation τ sig (Elt Ideal)) (a : Model.Args) (h5 : V (Proc.devRef .tc main_arg5) = a.gW3)
    (h6 : V (Proc.devRef .tc main_arg6) = a.gb3)
    (hg : ∀ b n k, @Eq EReal (V (Proc.devRef .tc main_v21) (ix3 b n k)) (Model.g2 a b n k))
    (b : Fin 8) (n : Fin 8192) (k : Fin 64) :
    @Eq EReal (after latentOps V (Proc.devRef .tc main_v30) (ix3 b n k)) (Model.u a b k) := by
  simp only [latentOps, TRef.binary, TRef.nullary, TRef.unary, TRef.toBuf, TRef.ofBuf, cast_eq]
  after_results_simp
  pointwise
  simp only [hg, h5, h6]
  rfl

/-- The logits, whole. -/
def logitV (h : FVec Ideal S8x8192x64 .f32) (W : FVec Ideal S64x64 .f32) (v : FVec Ideal S64 .f32)
    (W' : FVec Ideal S64x512 .f32) (v' : FVec Ideal S512 .f32) : FVec Ideal S8x8192x512 .f32 :=
  addf (Host.dotGeneral dot_S8x8192x64_S64x512_S8x8192x512_2_0_01_1_n_n none
    (maximumf (addf (Host.dotGeneral dot_S8x8192x64_S64x64_S8x8192x64_2_0_01_1_n_n none h W)
      (broadcastInDim S8x8192x64 ![0, 1, 2] bcast_S1x1x64_S8x8192x64_0_1_2 (broadcastInDim S1x1x64 ![2] bcast_S64_S1x1x64_2 v)))
      (broadcastInDim S8x8192x64 ![] bcast_S_S8x8192x64 (constant S_ FTy.f32 0#32))) W')
    (broadcastInDim S8x8192x512 ![0, 1, 2] bcast_S1x1x512_S8x8192x512_0_1_2 (broadcastInDim S1x1x512 ![2] bcast_S512_S1x1x512_2 v'))

/-- The logits at an index, from the first hidden layer. -/
theorem logitV_apply (h : FVec Ideal S8x8192x64 .f32) (W : FVec Ideal S64x64 .f32) (v : FVec Ideal S64 .f32)
    (W' : FVec Ideal S64x512 .f32) (v' : FVec Ideal S512 .f32) (b : Fin 8) (n : Fin 8192) (k : Fin 512) :
    logitV h W v W' v' (ix3 b n k) = Model.dense (Model.relu (fun j => h (ix3 b n j)) W v) W' v' k := by
  pointwise [logitV]
  rfl

/-- The group of the logits leaves their whole term. -/
theorem logit_whole (V : Valuation τ sig (Elt Ideal)) :
    after logitOps V (Proc.devRef .tc main_v45)
      = logitV (encV (V (Proc.devRef .tc main_arg0)) (V (Proc.devRef .tc main_v10)) (V (Proc.devRef .tc main_v30))
          (V (Proc.devRef .tc main_arg7)) (V (Proc.devRef .tc main_arg8)))
          (V (Proc.devRef .tc main_arg9)) (V (Proc.devRef .tc main_arg10)) (V (Proc.devRef .tc main_arg11))
          (V (Proc.devRef .tc main_arg12)) := by
  simp only [logitOps, TRef.binary, TRef.nullary, TRef.unary, TRef.toBuf, TRef.ofBuf, cast_eq]
  after_results_simp
  rfl

/-- The decoder's two hidden layers leave their whole term. -/
theorem hidden_read (V : Valuation τ sig (Elt Ideal)) (b : Fin 8) (n : Fin 8192) (k : Fin 64) :
    @Eq EReal (after hiddenOps V (Proc.devRef .tc main_v82) (ix3 b n k))
      (Model.relu (fun j => decV (V (Proc.devRef .tc main_v71)) (V (Proc.devRef .tc main_v30)) (V (Proc.devRef .tc main_v60))
        (V (Proc.devRef .tc main_arg13)) (V (Proc.devRef .tc main_arg14)) (ix3 b n j))
        (V (Proc.devRef .tc main_arg15)) (V (Proc.devRef .tc main_arg16)) k) := by
  simp only [hiddenOps, TRef.binary, TRef.nullary, TRef.unary, TRef.toBuf, TRef.ofBuf, cast_eq]
  after_results_simp
  pointwise [decV]
  rfl

/-- The decoded points. -/
theorem out_read (V : Valuation τ sig (Elt Ideal)) (b : Fin 8) (n : Fin 8192) (k : Fin 3) :
    @Eq EReal (after outOps V (Proc.devRef .tc main_v86) (ix3 b n k))
      (Model.dense (fun j => V (Proc.devRef .tc main_v82) (ix3 b n j)) (V (Proc.devRef .tc main_arg17))
        (V (Proc.devRef .tc main_arg18)) k) := by
  simp only [outOps]
  after_results_simp
  pointwise
  rfl

end Cert.Proof.Ref
-- ==== Proof.RefHard.lean ====
/- The reference's softmax, its argmax and the straight-through code. -/
module

public import proofs.«01_k».proof.Proof.RefVal
public import proofs.«01_k».proof.Proof.Hard
public import Idealize.ShloMosaic.Lib.Pointwise
public import Idealize.ShloMosaic.Lib.Pipeline.ValueKit
public import Idealize.ShloMosaic.Lib.StableHlo.RunRead

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo

/-- The largest entry of each row. -/
def rowMax (x : FVec Ideal S8x8192x512 .f32) : FVec Ideal S8x8192 .f32 :=
  Host.reduce FloatOps.maximumf x (constant S_ FTy.f32 4286578688#32) reducesTo_S8x8192x512_S8x8192_d2 h_S_

/-- The exponentials of a row's entries less its largest. -/
def expV (x : FVec Ideal S8x8192x512 .f32) (t : FVec Ideal S8x8192 .f32) : FVec Ideal S8x8192x512 .f32 :=
  Host.exp (subf x (broadcastInDim S8x8192x512 ![0, 1, 2] bcast_S8x8192x1_S8x8192x512_0_1_2
    (broadcastInDim S8x8192x1 ![0, 1] bcast_S8x8192_S8x8192x1_0_1
      (maximumf (broadcastInDim S8x8192 ![] bcast_S_S8x8192 (constant S_ FTy.f32 4286578688#32)) t))))

/-- Each entry divided by its row's sum. -/
def normV (e : FVec Ideal S8x8192x512 .f32) : FVec Ideal S8x8192x512 .f32 :=
  Host.divf e (broadcastInDim S8x8192x512 ![0, 1, 2] bcast_S8x8192x1_S8x8192x512_0_1_2
    (broadcastInDim S8x8192x1 ![0, 1] bcast_S8x8192_S8x8192x1_0_1
      (Host.reduceAdd e (constant S_ FTy.f32 0#32) reducesTo_S8x8192x512_S8x8192_d2 h_S_)))

/-- The second parts of an array of pairs. -/
def seconds (P : S8x8192.Idx → Ideal .f32 × BitVec 32) : IVec S8x8192 32 := fun j => (P j).2

/-- The second part of a known pair. -/
theorem seconds_apply (P : S8x8192.Idx → Ideal .f32 × BitVec 32) (j : S8x8192.Idx) (a : Ideal .f32) (c : BitVec 32)
    (h : P j = (a, c)) : seconds P j = c := by
  unfold seconds
  rw [h]

/-- The index of the largest value of each row. -/
def argV (x : FVec Ideal S8x8192x512 .f32) : IVec S8x8192 32 :=
  seconds (Host.argReduce (F := Ideal) (φ := .f32) reducer_argmax_f32_i32 x (iotaInDim S8x8192x512 32 2)
    (constant S_ FTy.f32 4286578688#32) (constantI S_ 32 0#32) reducesTo_S8x8192x512_S8x8192_d2 h_S_)

/-- The one-hot code less and plus the soft one. -/
def hardV (v : FVec Ideal S8x8192x512 .f32) (i : IVec S8x8192 32) : FVec Ideal S8x8192x512 .f32 :=
  addf (subf (uitofp FTy.f32 (cmpi CmpIPredicate.eq
    (broadcastInDim S8x8192x512 ![0, 1, 2] bcast_S8x8192x1_S8x8192x512_0_1_2
      (broadcastInDim S8x8192x1 ![0, 1] bcast_S8x8192_S8x8192x1_0_1 i))
    (broadcastInDim S8x8192x512 ![0, 1, 2] bcast_S1x1x512_S8x8192x512_0_1_2 (iotaInDim S1x1x512 32 2)))) v) v

/-- A row's largest entry at an index. -/
theorem rowMax_apply (x : FVec Ideal S8x8192x512 .f32) (b : Fin 8) (n : Fin 8192) :
    rowMax x (ix2 b n) = Model.top (fun k => x (ix3 b n k)) := by
  pointwise [rowMax]
  rfl

/-- The exponentials at an index. -/
theorem expV_apply (x : FVec Ideal S8x8192x512 .f32) (t : FVec Ideal S8x8192 .f32) (b : Fin 8) (n : Fin 8192) (k : Fin 512) :
    expV x t (ix3 b n k) = Ideal.exp (x (ix3 b n k) - max (Ideal.ofBits FTy.f32 4286578688#32) (t (ix2 b n))) := by
  pointwise [expV]

/-- The quotients at an index. -/
theorem normV_apply (e : FVec Ideal S8x8192x512 .f32) (b : Fin 8) (n : Fin 8192) (k : Fin 512) :
    normV e (ix3 b n k) = Ideal.div (e (ix3 b n k)) (∑ k : Fin 512, e (ix3 b n k)) := by
  pointwise [normV]

/-- The softmax at an index. -/
theorem soft_apply (x : FVec Ideal S8x8192x512 .f32) (b : Fin 8) (n : Fin 8192) (k : Fin 512) :
    normV (expV x (rowMax x)) (ix3 b n k) = Model.soft (fun k => x (ix3 b n k)) k := by
  have hx : ∀ k, expV x (rowMax x) (ix3 b n k) = Model.exps (fun k => x (ix3 b n k)) k := fun k =>
    (expV_apply x (rowMax x) b n k).trans (by rw [rowMax_apply]; rfl)
  rw [normV_apply, hx, Finset.sum_congr rfl fun k _ => hx k]
  rfl

/-- The softmax's group leaves the softmax. -/
theorem softmax_whole (V : Valuation τ sig (Elt Ideal)) :
    after softmaxOps V (Proc.devRef .tc main_v56)
      = normV (expV (V (Proc.devRef .tc main_v45)) (rowMax (V (Proc.devRef .tc main_v45)))) := by
  simp only [softmaxOps]
  after_results_simp
  rfl

/-- The straight-through code at an index. -/
theorem hardV_apply (v : FVec Ideal S8x8192x512 .f32) (i : IVec S8x8192 32) (b : Fin 8) (n : Fin 8192) (k : Fin 512) :
    hardV v i (ix3 b n k) = (FloatOps.uitofp (F := Ideal) FTy.f32 (IntOp.cmpi CmpIPredicate.eq (i (ix2 b n)) (BitVec.ofNat 32 k.val))
      - v (ix3 b n k) + v (ix3 b n k) : EReal) := by
  pointwise [hardV]

/-- The argmax's group leaves the straight-through code. -/
theorem hard_whole (V : Valuation τ sig (Elt Ideal)) :
    after hardOps V (Proc.devRef .tc main_v60) = hardV (V (Proc.devRef .tc main_v56)) (argV (V (Proc.devRef .tc main_v56))) := by
  simp only [hardOps, TRef.binary, TRef.nullary, TRef.unary, TRef.quaternary, TRef.toBuf, TRef.ofBuf, cast_eq]
  after_results_simp
  rfl

/-- The reducer keeps the first pair where its value is greater. -/
theorem reducer_left (a b : EReal × BitVec 32) (h : b.1 < a.1) : reducer_argmax_f32_i32 (F := Ideal) a b = a := by
  obtain ⟨a1, a2⟩ := a
  obtain ⟨b1, b2⟩ := b
  replace h : b1 < a1 := h
  have h1 : FloatOps.cmpf (F := Ideal) (φ := .f32) .ogt a1 b1 = 1#1 := by simp [Ideal.cmpf_def, Ideal.cmp, h]
  have h2 : ∀ w : BitVec 1, IntOp.ori 1#1 w = 1#1 := by decide
  simp only [reducer_argmax_f32_i32, h1, h2, Scalar.select]
  rfl

/-- The reducer takes the second pair where its value is greater. -/
theorem reducer_right (a b : EReal × BitVec 32) (h : a.1 < b.1) : reducer_argmax_f32_i32 (F := Ideal) a b = b := by
  obtain ⟨a1, a2⟩ := a
  obtain ⟨b1, b2⟩ := b
  replace h : a1 < b1 := h
  simp [reducer_argmax_f32_i32, Ideal.cmpf_def, Ideal.cmp, IntOp.ori, IntOp.andi, IntOp.cmpi, Scalar.select, h.not_gt, h.ne]

/-- The reducer of a pair with itself is that pair. -/
theorem reducer_self (a : EReal × BitVec 32) : reducer_argmax_f32_i32 (F := Ideal) a a = a := by
  simp [reducer_argmax_f32_i32, Scalar.select]

/-- The reducer's value is one of the two. -/
theorem reducer_val (a b : EReal × BitVec 32) :
    (reducer_argmax_f32_i32 (F := Ideal) a b).1 = a.1 ∨ (reducer_argmax_f32_i32 (F := Ideal) a b).1 = b.1 := by
  simp only [reducer_argmax_f32_i32, Scalar.select]
  split
  · exact .inl rfl
  · exact .inr rfl

/-- A pair of the fiber is an operand index that drops to the result's, read in both operands. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ (x i, y i) = p := by
  simp only [Host.argReduceFiber, List.mem_map, List.mem_filter, decide_eq_true_eq]
  constructor
  · rintro ⟨n, ⟨_, hn⟩, hp⟩
    exact ⟨_, hn, hp⟩
  · rintro ⟨i, hi, hp⟩
    exact ⟨s.rowMajor i, ⟨List.mem_finRange _, by rw [Equiv.symm_apply_apply]; exact hi⟩, by rw [Equiv.symm_apply_apply]; exact hp⟩

/-- The arg-max over a fiber is the pair at the one index of largest value. -/
theorem argReduce_apply {s t u : Shape} {axes : List (Fin s.rank)} (x : FVec Ideal s .f32) (y : IVec s 32)
    (ix : FVec Ideal u .f32) (iy : IVec u 32) (h : s.ReducesTo axes t) (hu : 0 < u.numel) (j : t.Idx) (i₀ : s.Idx)
    (h0 : h.drop i₀ = j) (hb : (ix (Shape.Idx.first hu) : EReal) < x i₀)
    (hlt : ∀ i, h.drop i = j → (x i : EReal) < x i₀ ∨ i = i₀) :
    Host.argReduce (F := Ideal) (φ := .f32) reducer_argmax_f32_i32 x y ix iy h hu j = (x i₀, y i₀) := by
  rw [Ideal.argReduce_eq_reduce2, Host.reduce2_eq_foldl_fiber]
  exact Model.foldl_largest (reducer_argmax_f32_i32 (F := Ideal)) reducer_left reducer_right reducer_self reducer_val
    ((x i₀ : EReal), y i₀) _ _
    (fun q hq => by
      obtain ⟨i, hi, rfl⟩ := (mem_fiber _ _ _ _ _).mp hq
      rcases hlt i hi with e | e
      · exact .inl e
      · exact .inr (by rw [e]))
    (.inr ⟨hb, (mem_fiber _ _ _ _ _).mpr ⟨i₀, h0, rfl⟩⟩)

/-- An index drops to a row exactly if it lies in the row. -/
theorem drop_row (b : Fin 8) (n : Fin 8192) (i : S8x8192x512.Idx) :
    reducesTo_S8x8192x512_S8x8192_d2.drop i = ix2 b n ↔ ∃ k, ix3 b n k = i :=
  Shape.ReducesTo.fiber_r3_a2 reducesTo_S8x8192x512_S8x8192_d2 (ix2 b n) i

/-- The numbering of a row's entries. -/
theorem iota_row (b : Fin 8) (n : Fin 8192) (k : Fin 512) :
    iotaInDim S8x8192x512 32 2 (ix3 b n k) = BitVec.ofNat 32 k.val := by
  pointwise

/-- The start of the arg-max is the bottom. -/
theorem ninf_bot (i : S_.Idx) : ((constant (F := Ideal) S_ FTy.f32 4286578688#32) i : EReal) = ⊥ :=
  Model.ofBits_ninf

/-- The argmax of a row with a single largest entry is that entry's index. -/
theorem argV_apply (x : FVec Ideal S8x8192x512 .f32) (b : Fin 8) (n : Fin 8192) (k₀ : Fin 512)
    (h0 : (⊥ : EReal) < x (ix3 b n k₀)) (hlt : ∀ k, k ≠ k₀ → (x (ix3 b n k) : EReal) < x (ix3 b n k₀)) :
    argV x (ix2 b n) = BitVec.ofNat 32 k₀.val := by
  have hb : ((constant (F := Ideal) S_ FTy.f32 4286578688#32) (Shape.Idx.first h_S_) : EReal) < x (ix3 b n k₀) := by
    rw [ninf_bot]
    exact h0
  have hrow : ∀ i, reducesTo_S8x8192x512_S8x8192_d2.drop i = ix2 b n →
      (x i : EReal) < x (ix3 b n k₀) ∨ i = ix3 b n k₀ := by
    intro i hi
    obtain ⟨k, rfl⟩ := (drop_row b n i).mp hi
    by_cases e : k = k₀
    · exact .inr (by rw [e])
    · exact .inl (hlt k e)
  have key := argReduce_apply x (iotaInDim S8x8192x512 32 2) (constant (F := Ideal) S_ FTy.f32 4286578688#32)
    (constantI S_ 32 0#32) reducesTo_S8x8192x512_S8x8192_d2 h_S_ (ix2 b n) (ix3 b n k₀)
    ((drop_row b n _).mpr ⟨k₀, rfl⟩) hb hrow
  exact (seconds_apply _ _ _ _ key).trans (iota_row b n k₀)

/-- The bit one as a float. -/
theorem uitofp_one : (FloatOps.uitofp (F := Ideal) FTy.f32 1#1 : EReal) = 1 := by
  show (((1#1 : BitVec 1).toNat : ℝ) : EReal) = 1
  simp

/-- The bit zero as a float. -/
theorem uitofp_zero : (FloatOps.uitofp (F := Ideal) FTy.f32 0#1 : EReal) = 0 := by
  show (((0#1 : BitVec 1).toNat : ℝ) : EReal) = 0
  simp

/-- The two groups leave the mark of the largest logit. -/
theorem hard_read (V : Valuation τ sig (Elt Ideal)) (l : Fin 8 → Fin 8192 → Fin 512 → EReal)
    (hl : ∀ b n k, @Eq EReal (V (Proc.devRef .tc main_v45) (ix3 b n k)) (l b n k)) (b : Fin 8) (n : Fin 8192)
    (h : Model.OneTop (l b n)) (k : Fin 512) :
    @Eq EReal (after hardOps (after softmaxOps V) (Proc.devRef .tc main_v60) (ix3 b n k)) (Model.hot (l b n) k) := by
  obtain ⟨k₀, hk⟩ := h.1
  obtain ⟨v, hv, h0, hlt⟩ := h.soft_real hk
  rw [hard_whole, softmax_whole]
  have hs : ∀ k, normV (expV (V (Proc.devRef .tc main_v45)) (rowMax (V (Proc.devRef .tc main_v45)))) (ix3 b n k) = (v k : EReal) :=
    fun k => (soft_apply _ b n k).trans (by rw [← hv]; exact congrFun (congrArg Model.soft (funext fun k => hl b n k)) k)
  generalize normV (expV (V (Proc.devRef .tc main_v45)) (rowMax (V (Proc.devRef .tc main_v45)))) = y at hs
  refine (hardV_apply _ _ b n k).trans ?_
  rw [argV_apply y b n k₀ (by rw [hs]; exact EReal.bot_lt_coe _) (fun k e => by rw [hs, hs]; exact EReal.coe_lt_coe_iff.mpr (hlt k e)),
    hs, Model.sub_add_real]
  unfold Model.hot
  by_cases e : k = k₀
  · rw [if_pos ((hk k).mpr e), e, show IntOp.cmpi CmpIPredicate.eq (BitVec.ofNat 32 k₀.val) (BitVec.ofNat 32 k₀.val) = 1#1 by
      simp [IntOp.cmpi]]
    exact uitofp_one
  · rw [if_neg fun q => e ((hk k).mp q), show IntOp.cmpi CmpIPredicate.eq (BitVec.ofNat 32 k₀.val) (BitVec.ofNat 32 k.val) = 0#1 by
      have hne : BitVec.ofNat 32 k₀.val ≠ BitVec.ofNat 32 k.val := fun q => e (Fin.ext (by
        have := congrArg BitVec.toNat q
        simp only [BitVec.toNat_ofNat] at this
        omega))
      show BitVec.ofBool (BitVec.ofNat 32 k₀.val == BitVec.ofNat 32 k.val) = 0#1
      rw [beq_false_of_ne hne]
      rfl]
    exact uitofp_zero

end Cert.Proof.Ref
-- ==== Proof.RefEnd.lean ====
module

public import proofs.«01_k».proof.Proof.RefRun
public import proofs.«01_k».proof.Proof.RefVal
public import proofs.«01_k».proof.Proof.RefHard
public import Idealize.ShloMosaic.Lib.Pointwise
public import Idealize.ShloMosaic.Lib.Pipeline.ValueKit
public import Idealize.ShloMosaic.Lib.StableHlo.RunRead

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo

/-- The nineteen arguments' buffers. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18]

/-- Contents that agree on the arguments' buffers hold the same arguments. -/
theorem args_congr (V V' : Valuation τ sig (Elt Ideal))
    (h : ∀ b ∈ argRefs, V (Proc.devRef .tc b) = V' (Proc.devRef .tc b)) : args V = args V' := by
  unfold args
  congr 1 <;> exact h _ (by decide)

/-- The arguments are kept by `posOps`. -/
theorem args_posOps (V : Valuation τ sig (Elt Ideal)) : args (after posOps V) = args V :=
  args_congr _ _ fun b hb => posOps_keep V b ((by decide : ∀ b ∈ argRefs, b ∉ posOps_out) b hb)

/-- The arguments are kept by `groupOps`. -/
theorem args_groupOps (V : Valuation τ sig (Elt Ideal)) : args (after groupOps V) = args V :=
  args_congr _ _ fun b hb => groupOps_keep V b ((by decide : ∀ b ∈ argRefs, b ∉ groupOps_out) b hb)

/-- The arguments are kept by `latentOps`. -/
theorem args_latentOps (V : Valuation τ sig (Elt Ideal)) : args (after latentOps V) = args V :=
  args_congr _ _ fun b hb => latentOps_keep V b ((by decide : ∀ b ∈ argRefs, b ∉ latentOps_out) b hb)

/-- The arguments are kept by `logitOps`. -/
theorem args_logitOps (V : Valuation τ sig (Elt Ideal)) : args (after logitOps V) = args V :=
  args_congr _ _ fun b hb => logitOps_keep V b ((by decide : ∀ b ∈ argRefs, b ∉ logitOps_out) b hb)

/-- The arguments are kept by `softmaxOps`. -/
theorem args_softmaxOps (V : Valuation τ sig (Elt Ideal)) : args (after softmaxOps V) = args V :=
  args_congr _ _ fun b hb => softmaxOps_keep V b ((by decide : ∀ b ∈ argRefs, b ∉ softmaxOps_out) b hb)

/-- The arguments are kept by `hardOps`. -/
theorem args_hardOps (V : Valuation τ sig (Elt Ideal)) : args (after hardOps V) = args V :=
  args_congr _ _ fun b hb => hardOps_keep V b ((by decide : ∀ b ∈ argRefs, b ∉ hardOps_out) b hb)

/-- The arguments are kept by `posOps2`. -/
theorem args_posOps2 (V : Valuation τ sig (Elt Ideal)) : args (after posOps2 V) = args V :=
  args_congr _ _ fun b hb => posOps2_keep V b ((by decide : ∀ b ∈ argRefs, b ∉ posOps2_out) b hb)

/-- The arguments are kept by `hiddenOps`. -/
theorem args_hiddenOps (V : Valuation τ sig (Elt Ideal)) : args (after hiddenOps V) = args V :=
  args_congr _ _ fun b hb => hiddenOps_keep V b ((by decide : ∀ b ∈ argRefs, b ∉ hiddenOps_out) b hb)

/-- The logits at an entry. -/
theorem logit_read (V : Valuation τ sig (Elt Ideal)) (a : Model.Args) (ha : args V = a)
    (hr : ∀ b n k, @Eq EReal (V (Proc.devRef .tc main_v10) (ix3 b n k)) (Model.bit n k))
    (hu : ∀ b n k, @Eq EReal (V (Proc.devRef .tc main_v30) (ix3 b n k)) (Model.u a b k))
    (b : Fin 8) (n : Fin 8192) (k : Fin 512) :
    @Eq EReal (after logitOps V (Proc.devRef .tc main_v45) (ix3 b n k)) (Model.lg a b n k) := by
  subst ha
  rw [logit_whole, logitV_apply]
  refine congrArg (fun h => Model.dense (Model.relu h _ _) _ _ k) (funext fun j => ?_)
  rw [encV_apply]
  simp only [hr, hu]
  rfl

/-- The decoded point at an entry. -/
theorem point_read (V : Valuation τ sig (Elt Ideal)) (a : Model.Args) (ha : args V = a)
    (hr : ∀ b n k, @Eq EReal (V (Proc.devRef .tc main_v71) (ix3 b n k)) (Model.bit n k))
    (hu : ∀ b n k, @Eq EReal (V (Proc.devRef .tc main_v30) (ix3 b n k)) (Model.u a b k))
    (hh : ∀ b n k, @Eq EReal (V (Proc.devRef .tc main_v60) (ix3 b n k)) (Model.hot (Model.lg a b n) k))
    (b : Fin 8) (n : Fin 8192) (k : Fin 3) :
    @Eq EReal (after outOps (after hiddenOps V) (Proc.devRef .tc main_v86) (ix3 b n k)) (Model.out a b n k) := by
  have h17 := hiddenOps_keep V main_arg17 (by decide)
  have h18 := hiddenOps_keep V main_arg18 (by decide)
  subst ha
  rw [out_read, h17, h18]
  refine congrArg (fun h => Model.dense h _ _ k) (funext fun j => ?_)
  rw [hidden_read]
  refine congrArg (fun h => Model.relu h _ _ j) (funext fun i => ?_)
  rw [decV_apply]
  simp only [hr, hu, hh]
  rfl

/-- The contents when the logits are known. -/
def logitVal (V : Valuation τ sig (Elt Ideal)) : Valuation τ sig (Elt Ideal) :=
  after logitOps (after latentOps (after groupOps (after posOps V)))

/-- What the logits' contents hold: the arguments, the latent and the logits. -/
theorem logitVal_read (V : Valuation τ sig (Elt Ideal)) :
    args (logitVal V) = args V
    ∧ (∀ b n k, @Eq EReal (logitVal V (Proc.devRef .tc main_v30) (ix3 b n k)) (Model.u (args V) b k))
    ∧ (∀ b n k, @Eq EReal (logitVal V (Proc.devRef .tc main_v45) (ix3 b n k)) (Model.lg (args V) b n k)) := by
  have p1 := pos_read V
  have a1 := args_posOps V
  unfold logitVal
  generalize after posOps V = V1 at p1 a1 ⊢
  have g2 := group_read V1 p1
  have a2 := args_groupOps V1
  have p2 : ∀ b n k, @Eq EReal (after groupOps V1 (Proc.devRef .tc main_v10) (ix3 b n k)) (Model.bit n k) := by
    rw [groupOps_keep V1 main_v10 (by decide)]
    exact p1
  generalize after groupOps V1 = V2 at g2 a2 p2 ⊢
  have a12 : args V2 = args V := a2.trans a1
  have g2' : ∀ b n k, @Eq EReal (V2 (Proc.devRef .tc main_v21) (ix3 b n k)) (Model.g2 (args V) b n k) := by
    rw [← a1]
    exact g2
  have u3 := latent_read V2 (args V) (congrArg Model.Args.gW3 a12) (congrArg Model.Args.gb3 a12) g2'
  have a3 : args (after latentOps V2) = args V := (args_latentOps V2).trans a12
  have p3 : ∀ b n k, @Eq EReal (after latentOps V2 (Proc.devRef .tc main_v10) (ix3 b n k)) (Model.bit n k) := by
    rw [latentOps_keep V2 main_v10 (by decide)]
    exact p2
  generalize after latentOps V2 = V3 at u3 a3 p3 ⊢
  refine ⟨(args_logitOps V3).trans a3, ?_, logit_read V3 _ a3 p3 u3⟩
  rw [logitOps_keep V3 main_v30 (by decide)]
  exact u3

/-- The reference's two results, entry by entry. -/
theorem endVal_read (V : Valuation τ sig (Elt Ideal)) (h : ∀ b n, Model.OneTop (Model.lg (args V) b n)) :
    (∀ b n k, @Eq EReal (endVal V (Proc.devRef .tc main_v60) (ix3 b n k)) (Model.hot (Model.lg (args V) b n) k))
    ∧ (∀ b n k, @Eq EReal (endVal V (Proc.devRef .tc main_v86) (ix3 b n k)) (Model.out (args V) b n k)) := by
  obtain ⟨a4, u4, l4⟩ := logitVal_read V
  have e : endVal V = after outOps (after hiddenOps (after posOps2 (after hardOps (after softmaxOps (logitVal V))))) := rfl
  rw [e]
  generalize logitVal V = V4 at a4 u4 l4 ⊢
  have h6 := fun b n => hard_read V4 _ l4 b n (h b n)
  have a6 : args (after hardOps (after softmaxOps V4)) = args V :=
    (args_hardOps _).trans ((args_softmaxOps V4).trans a4)
  have u6 : ∀ b n k, @Eq EReal (after hardOps (after softmaxOps V4) (Proc.devRef .tc main_v30) (ix3 b n k))
      (Model.u (args V) b k) := by
    rw [hardOps_keep _ main_v30 (by decide), softmaxOps_keep _ main_v30 (by decide)]
    exact u4
  generalize after hardOps (after softmaxOps V4) = V6 at h6 a6 u6 ⊢
  have p7 := pos2_read V6
  have a7 : args (after posOps2 V6) = args V := (args_posOps2 V6).trans a6
  have h7 : ∀ b n k, @Eq EReal (after posOps2 V6 (Proc.devRef .tc main_v60) (ix3 b n k)) (Model.hot (Model.lg (args V) b n) k) := by
    rw [posOps2_keep _ main_v60 (by decide)]
    exact h6
  have u7 : ∀ b n k, @Eq EReal (after posOps2 V6 (Proc.devRef .tc main_v30) (ix3 b n k)) (Model.u (args V) b k) := by
    rw [posOps2_keep _ main_v30 (by decide)]
    exact u6
  generalize after posOps2 V6 = V7 at p7 a7 h7 u7 ⊢
  refine ⟨?_, point_read V7 _ a7 p7 u7 h7⟩
  rw [outOps_keep _ main_v60 (by decide), hiddenOps_keep _ main_v60 (by decide)]
  exact h7

end Cert.Proof.Ref
-- ==== Proof.Pre.lean ====
/- The precondition, decoded: where it holds, each point's logits have one largest entry, below infinity. -/
module

public import proofs.«01_k».proof.Pre_one_largest
public import proofs.«01_k».proof.Proof.Hard
public import Idealize.ShloMosaic.Lib.Pointwise
public import Idealize.ShloMosaic.Lib.IndicatorCount
public import Idealize.ShloMosaic.Lib.StableHlo.Predicate
public import Idealize.ShloMosaic.Lib.Pipeline.ValueKit

@[expose] public section

set_option maxRecDepth 16384

noncomputable section

namespace Cert.Proof.Pre

open Cert.Pre_one_largest Cert.Pre_one_largest.Facts Idealize.ShloMosaic

/-- The side conditions of the precondition's operations. -/
instance facts : Cert.Pre_one_largest.Facts := by
  constructor <;> decide +kernel

/-- The bits of the positions, whole. -/
def posV : FVec Ideal S8x8192x16 .f32 :=
  broadcastInDim S8x8192x16 ![1, 2] bcast_S8192x16_S8x8192x16_1_2 (sitofp .f32 (andi
    (Host.shrsi
      (broadcastInDim S8192x16 ![0, 1] bcast_S8192x1_S8192x16_0_1
        (broadcastInDim S8192x1 ![0] bcast_S8192_S8192x1_0 (iotaInDim S8192 32 0)))
      (broadcastInDim S8192x16 ![0, 1] bcast_S1x16_S8192x16_0_1
        (broadcastInDim S1x16 ![1] bcast_S16_S1x16_1 (iotaInDim S16 32 0))))
    (broadcastInDim S8192x16 ![] bcast_S_S8192x16 (constantI S_ 32 1#32))))

/-- The bits at an entry. -/
theorem posV_apply (b : Fin 8) (n : Fin 8192) (k : Fin 16) : posV (ix3 b n k) = Model.bit n k := by
  pointwise [posV]
  rfl

/-- A layer on a box of features, cut off below at zero. -/
def reluV (h : FVec Ideal S8x8192x64 .f32) (W : FVec Ideal S64x64 .f32) (v : FVec Ideal S64 .f32) : FVec Ideal S8x8192x64 .f32 :=
  fn_relu (addf (Host.dotGeneral dot_S8x8192x64_S64x64_S8x8192x64_2_0_01_1_n_n none h W)
    (broadcastInDim S8x8192x64 ![0, 1, 2] bcast_S1x1x64_S8x8192x64_0_1_2 (broadcastInDim S1x1x64 ![2] bcast_S64_S1x1x64_2 v)))

/-- The layer at an entry. -/
theorem reluV_apply (h : FVec Ideal S8x8192x64 .f32) (W : FVec Ideal S64x64 .f32) (v : FVec Ideal S64 .f32)
    (b : Fin 8) (n : Fin 8192) (j : Fin 64) : reluV h W v (ix3 b n j) = Model.relu (fun k => h (ix3 b n k)) W v j := by
  pointwise [reluV, fn_relu]
  rfl

/-- The group encoder's first layer, whole. -/
def grpV (x : FVec Ideal S8x8192x3 .f32) (r : FVec Ideal S8x8192x16 .f32) (W : FVec Ideal S19x64 .f32) (v : FVec Ideal S64 .f32) :
    FVec Ideal S8x8192x64 .f32 :=
  fn_relu (addf (Host.dotGeneral dot_S8x8192x19_S19x64_S8x8192x64_2_0_01_1_n_n none
      (concatenate S8x8192x19 2 [⟨S8x8192x3, x⟩, ⟨S8x8192x16, r⟩] concatenates_S8x8192x3_S8x8192x16_S8x8192x19_d2) W)
    (broadcastInDim S8x8192x64 ![0, 1, 2] bcast_S1x1x64_S8x8192x64_0_1_2 (broadcastInDim S1x1x64 ![2] bcast_S64_S1x1x64_2 v)))

/-- The group encoder's first layer at an entry. -/
theorem grpV_apply (x : FVec Ideal S8x8192x3 .f32) (r : FVec Ideal S8x8192x16 .f32) (W : FVec Ideal S19x64 .f32)
    (v : FVec Ideal S64 .f32) (b : Fin 8) (n : Fin 8192) (j : Fin 64) :
    grpV x r W v (ix3 b n j) = max (∑ k : Fin 3, x (ix3 b n k) * W (ix2 ⟨k.val, by omega⟩ j)
      + ∑ k : Fin 16, r (ix3 b n k) * W (ix2 ⟨3 + k.val, by omega⟩ j) + v (ix1 j)) 0 := by
  pointwise [grpV, fn_relu]

/-- The group latent, whole. -/
def latV (g : FVec Ideal S8x8192x64 .f32) (W : FVec Ideal S64x64 .f32) (v : FVec Ideal S64 .f32) : FVec Ideal S8x8192x64 .f32 :=
  broadcastInDim S8x8192x64 ![0, 1, 2] bcast_S8x1x64_S8x8192x64_0_1_2 (broadcastInDim S8x1x64 ![0, 2] bcast_S8x64_S8x1x64_0_2
    (addf (Host.dotGeneral dot_S8x64_S64x64_S8x64_1_0_0_1_n_n none
      (Host.divf (Host.reduceAdd g (constant S_ .f32 0x00000000#32) reducesTo_S8x8192x64_S8x64_d1 h_S_)
        (broadcastInDim S8x64 ![] bcast_S_S8x64 (constant S_ .f32 0x46000000#32))) W)
      (broadcastInDim S8x64 ![0, 1] bcast_S1x64_S8x64_0_1 (broadcastInDim S1x64 ![1] bcast_S64_S1x64_1 v))))

/-- The group latent at an entry. -/
theorem latV_apply (g : FVec Ideal S8x8192x64 .f32) (W : FVec Ideal S64x64 .f32) (v : FVec Ideal S64 .f32)
    (b : Fin 8) (n : Fin 8192) (j : Fin 64) :
    latV g W v (ix3 b n j) = Model.dense (fun k => Ideal.div (∑ i : Fin 8192, g (ix3 b i k)) (Ideal.ofBits FTy.f32 1174405120#32)) W v j := by
  pointwise [latV]
  rfl

/-- The point encoder's first layer, whole. -/
def encV (x : FVec Ideal S8x8192x3 .f32) (r : FVec Ideal S8x8192x16 .f32) (u : FVec Ideal S8x8192x64 .f32)
    (W : FVec Ideal S83x64 .f32) (v : FVec Ideal S64 .f32) : FVec Ideal S8x8192x64 .f32 :=
  fn_relu (addf (Host.dotGeneral dot_S8x8192x83_S83x64_S8x8192x64_2_0_01_1_n_n none
      (concatenate S8x8192x83 2 [⟨S8x8192x3, x⟩, ⟨S8x8192x16, r⟩, ⟨S8x8192x64, u⟩]
        concatenates_S8x8192x3_S8x8192x16_S8x8192x64_S8x8192x83_d2) W)
    (broadcastInDim S8x8192x64 ![0, 1, 2] bcast_S1x1x64_S8x8192x64_0_1_2 (broadcastInDim S1x1x64 ![2] bcast_S64_S1x1x64_2 v)))

/-- The point encoder's first layer at an entry. -/
theorem encV_apply (x : FVec Ideal S8x8192x3 .f32) (r : FVec Ideal S8x8192x16 .f32) (u : FVec Ideal S8x8192x64 .f32)
    (W : FVec Ideal S83x64 .f32) (v : FVec Ideal S64 .f32) (b : Fin 8) (n : Fin 8192) (j : Fin 64) :
    encV x r u W v (ix3 b n j) = max (∑ k : Fin 3, x (ix3 b n k) * W (ix2 ⟨k.val, by omega⟩ j)
      + ∑ k : Fin 16, r (ix3 b n k) * W (ix2 ⟨3 + k.val, by omega⟩ j)
      + ∑ k : Fin 64, u (ix3 b n k) * W (ix2 ⟨3 + 16 + k.val, by omega⟩ j) + v (ix1 j)) 0 := by
  pointwise [encV, fn_relu]
  refine congrArg (fun t : EReal => max (t + v (ix1 j)) 0) ?_
  exact Model.sum_three 3 16 64 rfl (fun k => x (ix3 b n k)) (fun k => r (ix3 b n k)) (fun k => u (ix3 b n k))
    (fun k => W (ix2 k j))

/-- The logits of the features, whole. -/
def lgV (h : FVec Ideal S8x8192x64 .f32) (W : FVec Ideal S64x512 .f32) (v : FVec Ideal S512 .f32) : FVec Ideal S8x8192x512 .f32 :=
  addf (Host.dotGeneral dot_S8x8192x64_S64x512_S8x8192x512_2_0_01_1_n_n none h W)
    (broadcastInDim S8x8192x512 ![0, 1, 2] bcast_S1x1x512_S8x8192x512_0_1_2 (broadcastInDim S1x1x512 ![2] bcast_S512_S1x1x512_2 v))

/-- The logits at an entry. -/
theorem lgV_apply (h : FVec Ideal S8x8192x64 .f32) (W : FVec Ideal S64x512 .f32) (v : FVec Ideal S512 .f32)
    (b : Fin 8) (n : Fin 8192) (k : Fin 512) : lgV h W v (ix3 b n k) = Model.dense (fun j => h (ix3 b n j)) W v k := by
  pointwise [lgV]
  rfl

/-- The largest logit of each point. -/
def topV (l : FVec Ideal S8x8192x512 .f32) : FVec Ideal S8x8192x1 .f32 :=
  broadcastInDim S8x8192x1 ![0, 1] bcast_S8x8192_S8x8192x1_0_1
    (Host.reduce FloatOps.maximumf l (constant S_ .f32 0xFF800000#32) reducesTo_S8x8192x512_S8x8192_d2 h_S_)

/-- The largest logit at a point. -/
theorem topV_apply (l : FVec Ideal S8x8192x512 .f32) (b : Fin 8) (n : Fin 8192) (z : Fin 1) :
    topV l (ix3 b n z) = Model.top (fun k => l (ix3 b n k)) := by
  pointwise [topV]
  rfl

/-- The mark of the entries equal to the largest. -/
def markV (l : FVec Ideal S8x8192x512 .f32) (t : FVec Ideal S8x8192x1 .f32) : IVec S8x8192x512 1 :=
  cmpf .oeq l (broadcastInDim S8x8192x512 ![0, 1, 2] bcast_S8x8192x1_S8x8192x512_0_1_2 t)

/-- The mark at an entry. -/
theorem markV_apply (l : FVec Ideal S8x8192x512 .f32) (t : FVec Ideal S8x8192x1 .f32) (b : Fin 8) (n : Fin 8192) (k : Fin 512) :
    markV l t (ix3 b n k) = Ideal.cmp .oeq (l (ix3 b n k)) (t (ix3 b n 0)) := by
  pointwise [markV]

/-- How many entries of each point are marked. -/
def countV (p : IVec S8x8192x512 1) : IVec S8x8192 32 :=
  Host.reduce IntOp.addi (extui 32 p natLt_1_32) (constantI S_ 32 0#32) reducesTo_S8x8192x512_S8x8192_d2 h_S_

/-- The count at a point. -/
theorem countV_apply (p : IVec S8x8192x512 1) (b : Fin 8) (n : Fin 8192) :
    countV p (ix2 b n) = BitVec.ofNat 32 (Finset.univ.filter fun k : Fin 512 => p (ix3 b n k) = 1#1).card := by
  unfold countV
  pointwise
  exact IndicatorCount.fold_addi_setWidth_eq_card (fun k : Fin 512 => p (ix3 b n k)) Finset.univ

/-- The test of a point: one entry marked, and the largest below infinity. -/
def testV (c : IVec S8x8192 32) (t : FVec Ideal S8x8192x1 .f32) : IVec S8x8192 1 :=
  andi (cmpi .eq c (broadcastInDim S8x8192 ![] bcast_S_S8x8192 (constantI S_ 32 1#32)))
    (cmpf .olt (shapeCast S8x8192 t shapeCasts_S8x8192x1_S8x8192)
      (broadcastInDim S8x8192 ![] bcast_S_S8x8192 (constant S_ .f32 0x7F800000#32)))

/-- The test at a point. -/
theorem testV_apply (c : IVec S8x8192 32) (t : FVec Ideal S8x8192x1 .f32) (b : Fin 8) (n : Fin 8192) :
    testV c t (ix2 b n) = IntOp.andi (IntOp.cmpi .eq (c (ix2 b n)) 1#32)
      (Ideal.cmp .olt (t (ix3 b n 0)) (Ideal.ofBits FTy.f32 2139095040#32)) := by
  pointwise [testV]

/-- The precondition's arguments, named. -/
def pre (a : Model.Args) : IVec S8x8192 1 :=
  fn (F := Ideal) a.x a.gW1 a.gb1 a.gW2 a.gb2 a.gW3 a.gb3 a.iW1 a.ib1 a.iW2 a.ib2 a.iW3 a.ib3 a.dW1 a.db1 a.dW2 a.db2 a.dW3 a.db3

/-- The logits of the arguments, whole. -/
def logits (a : Model.Args) : FVec Ideal S8x8192x512 .f32 :=
  lgV (reluV (encV a.x posV (latV (reluV (grpV a.x posV a.gW1 a.gb1) a.gW2 a.gb2) a.gW3 a.gb3) a.iW1 a.ib1) a.iW2 a.ib2) a.iW3 a.ib3

/-- The precondition is the test of the logits. -/
theorem pre_eq (a : Model.Args) : pre a = testV (countV (markV (logits a) (topV (logits a)))) (topV (logits a)) := by
  rfl

/-- The logits at an entry are the model's. -/
theorem logits_apply (a : Model.Args) (b : Fin 8) (n : Fin 8192) (k : Fin 512) : logits a (ix3 b n k) = Model.lg a b n k := by
  unfold logits
  rw [lgV_apply]
  refine congrArg (fun h => Model.dense h _ _ k) (funext fun j => ?_)
  rw [reluV_apply]
  refine congrArg (fun h => Model.relu h _ _ j) (funext fun i => ?_)
  have hg : ∀ b n i, reluV (grpV a.x posV a.gW1 a.gb1) a.gW2 a.gb2 (ix3 b n i) = Model.g2 a b n i := fun b n i => by
    rw [reluV_apply]
    refine congrArg (fun h => Model.relu h _ _ i) (funext fun q => ?_)
    rw [grpV_apply]
    simp only [posV_apply]
    rfl
  rw [encV_apply]
  simp only [posV_apply, latV_apply, hg]
  rfl

/-- The pattern of positive infinity. -/
theorem ofBits_pinf : Ideal.ofBits FTy.f32 2139095040#32 = (⊤ : EReal) := by
  simp [Ideal.ofBits, Ideal.ieee]

/-- A conjunction of two bits that is one has both bits one. -/
theorem and_one {p q : BitVec 1} (h : IntOp.andi p q = 1#1) : p = 1#1 ∧ q = 1#1 := by
  revert p q
  decide

/-- The test of equality. -/
theorem cmp_oeq (x y : EReal) : Ideal.cmp .oeq x y = 1#1 ↔ x = y := by
  by_cases h : x = y <;> simp [Ideal.cmp, h]

/-- The test of order. -/
theorem cmp_olt (x y : EReal) : Ideal.cmp .olt x y = 1#1 ↔ x < y := by
  by_cases h : x < y <;> simp [Ideal.cmp, h]

/-- Where the precondition holds, each point's logits have one largest entry, below infinity. -/
theorem oneTop (a : Model.Args) (h : pre a = fun _ => 1#1) (b : Fin 8) (n : Fin 8192) : Model.OneTop (Model.lg a b n) := by
  have e := congrFun h (ix2 b n)
  rw [pre_eq, testV_apply, topV_apply, countV_apply] at e
  simp only [markV_apply, topV_apply, logits_apply] at e
  obtain ⟨e1, e2⟩ := and_one e
  have hl : (fun k => Model.lg a b n k) = Model.lg a b n := rfl
  rw [hl] at e1 e2
  refine ⟨?_, ?_⟩
  · have hc := StableHlo.Predicate.cmpi_eq_iff.mp e1
    have hle : (Finset.univ.filter fun k : Fin 512 => Ideal.cmp .oeq (Model.lg a b n k) (Model.top (Model.lg a b n)) = 1#1).card ≤ 512 :=
      (Finset.card_le_univ _).trans (by simp)
    have h1 : (Finset.univ.filter fun k : Fin 512 => Ideal.cmp .oeq (Model.lg a b n k) (Model.top (Model.lg a b n)) = 1#1).card = 1 := by
      have := congrArg BitVec.toNat hc
      simp only [BitVec.toNat_ofNat] at this
      omega
    obtain ⟨k₀, hk⟩ := Finset.card_eq_one.mp h1
    refine ⟨k₀, fun k => ?_⟩
    have hm : k ∈ (Finset.univ.filter fun k : Fin 512 => Ideal.cmp .oeq (Model.lg a b n k) (Model.top (Model.lg a b n)) = 1#1) ↔ k = k₀ := by
      rw [hk, Finset.mem_singleton]
    rw [Finset.mem_filter] at hm
    rw [← hm, cmp_oeq]
    simp
  · rw [ofBits_pinf, cmp_olt] at e2
    exact e2

end Cert.Proof.Pre
-- ==== Proof.Algebraic.lean ====
/- At extended reals the kernel and the reference end with equal results. -/
module

public import proofs.«01_k».proof.Proof.KernelEnd
public import proofs.«01_k».proof.Proof.RefEnd
public import proofs.«01_k».proof.Proof.Pre
public import proofs.«01_k».proof.Defs

@[expose] public section

set_option maxRecDepth 16384

noncomputable section

namespace Cert.Proof

open Idealize.ShloMosaic Idealize.ShloMosaic.TcCoe Idealize.SL.Sem Idealize.ShloMosaic.StableHlo

/-- From memories agreeing on the arguments the two programs read the same arguments. -/
theorem args_agree (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (h : V (Proc.devRef .tc Cert.ReferenceIdeal.main_arg0) = (Kern.args m c).x
      ∧ V (Proc.devRef .tc Cert.ReferenceIdeal.main_arg1) = (Kern.args m c).gW1
      ∧ V (Proc.devRef .tc Cert.ReferenceIdeal.main_arg2) = (Kern.args m c).gb1
      ∧ V (Proc.devRef .tc Cert.ReferenceIdeal.main_arg3) = (Kern.args m c).gW2
      ∧ V (Proc.devRef .tc Cert.ReferenceIdeal.main_arg4) = (Kern.args m c).gb2
      ∧ V (Proc.devRef .tc Cert.ReferenceIdeal.main_arg5) = (Kern.args m c).gW3
      ∧ V (Proc.devRef .tc Cert.ReferenceIdeal.main_arg6) = (Kern.args m c).gb3
      ∧ V (Proc.devRef .tc Cert.ReferenceIdeal.main_arg7) = (Kern.args m c).iW1
      ∧ V (Proc.devRef .tc Cert.ReferenceIdeal.main_arg8) = (Kern.args m c).ib1
      ∧ V (Proc.devRef .tc Cert.ReferenceIdeal.main_arg9) = (Kern.args m c).iW2
      ∧ V (Proc.devRef .tc Cert.ReferenceIdeal.main_arg10) = (Kern.args m c).ib2
      ∧ V (Proc.devRef .tc Cert.ReferenceIdeal.main_arg11) = (Kern.args m c).iW3
      ∧ V (Proc.devRef .tc Cert.ReferenceIdeal.main_arg12) = (Kern.args m c).ib3
      ∧ V (Proc.devRef .tc Cert.ReferenceIdeal.main_arg13) = (Kern.args m c).dW1
      ∧ V (Proc.devRef .tc Cert.ReferenceIdeal.main_arg14) = (Kern.args m c).db1
      ∧ V (Proc.devRef .tc Cert.ReferenceIdeal.main_arg15) = (Kern.args m c).dW2
      ∧ V (Proc.devRef .tc Cert.ReferenceIdeal.main_arg16) = (Kern.args m c).db2
      ∧ V (Proc.devRef .tc Cert.ReferenceIdeal.main_arg17) = (Kern.args m c).dW3
      ∧ V (Proc.devRef .tc Cert.ReferenceIdeal.main_arg18) = (Kern.args m c).db3) :
    Ref.args V = Kern.args m c := by
  obtain ⟨h0, h1, h2, h3, h4, h5, h6, h7, h8, h9, h10, h11, h12, h13, h14, h15, h16, h17, h18⟩ := h
  unfold Ref.args
  rw [h0, h1, h2, h3, h4, h5, h6, h7, h8, h9, h10, h11, h12, h13, h14, h15, h16, h17, h18]

/-- The reference's results are the kernel's. -/
theorem results_agree (m : (ℓ : Loc Cert.KernelIdeal.nD Cert.KernelIdeal.τ Cert.KernelIdeal.sig) → Buf (Elt Ideal) ℓ)
    (g : Dev Cert.KernelIdeal.nD → PrngReg) (V : Valuation Cert.ReferenceIdeal.τ Cert.ReferenceIdeal.sig (Elt Ideal))
    (c : Dev Cert.KernelIdeal.nD) (hV : Ref.args V = Kern.args m c) (hp : Pre.pre (Kern.args m c) = fun _ => 1#1) :
    @Eq (Model.A3 8 8192 3) (Ref.endVal V (Proc.devRef .tc Cert.ReferenceIdeal.main_v86))
      (Cert.KernelIdeal.Gen.W3 m g c (Proc.devRef .tc Cert.KernelIdeal.main_v0_0))
    ∧ @Eq (Model.A3 8 8192 512) (Ref.endVal V (Proc.devRef .tc Cert.ReferenceIdeal.main_v60))
      (Cert.KernelIdeal.Gen.W3 m g c (Proc.devRef .tc Cert.KernelIdeal.main_v0_1)) := by
  have hr := Ref.endVal_read V (fun b n => by rw [hV]; exact Pre.oneTop _ hp b n)
  rw [hV] at hr
  refine ⟨funext fun y => ?_, funext fun y => ?_⟩
  · rw [eq_ix3 y]
    exact (hr.2 (y 0) (y 1) (y 2)).trans (Kern.out_read m g c (y 0) (y 1) (y 2)).symm
  · rw [eq_ix3 y]
    exact (hr.1 (y 0) (y 1) (y 2)).trans (Kern.hot_read m g c (y 0) (y 1) (y 2)).symm

/-- The kernel and the reference end with equal results. -/
theorem algebraic : Cert.algebraic_KernelIdeal_ReferenceIdeal_pre_one_largest := by
  intro m g m' g' hpre hargs
  refine ⟨fun c => Cert.KernelIdeal.Gen.W3 m g c (Proc.devRef .tc Cert.KernelIdeal.main_v0_0),
    fun c => Cert.KernelIdeal.Gen.W3 m g c (Proc.devRef .tc Cert.KernelIdeal.main_v0_1), ?_, ?_⟩
  · refine (θ_run Cert.KernelIdeal.defs _ _).mono (fun r h c => ?_) (Cert.KernelIdeal.Gen.runAll m g)
    refine ⟨h.1 c _ (Cert.KernelIdeal.Gen.mem_uc Cert.KernelIdeal.main_v0_0 (by decide)),
      h.1 c _ (Cert.KernelIdeal.Gen.mem_uc Cert.KernelIdeal.main_v0_1 (by decide)),
      ?_, ?_, ?_, ?_, ?_, ?_, ?_, ?_, ?_, ?_, ?_, ?_, ?_, ?_, ?_, ?_, ?_, ?_, ?_⟩ <;>
      exact (h.1 c _ (Cert.KernelIdeal.Gen.mem_uc _ (by decide))).trans (Cert.KernelIdeal.Gen.W3_args m g c _ (by decide))
  · refine (θ_run Cert.ReferenceIdeal.defs _ _).mono (fun r h c => ?_) (Ref.run m' g')
    have ha := results_agree m g (launchContents m' c) c (args_agree m (launchContents m' c) c (hargs c)) (hpre c)
    refine ⟨(h.1 c _).trans ha.1, (h.1 c _).trans ha.2,
      ?_, ?_, ?_, ?_, ?_, ?_, ?_, ?_, ?_, ?_, ?_, ?_, ?_, ?_, ?_, ?_, ?_, ?_, ?_⟩ <;>
      exact (h.1 c _).trans (Ref.endVal_keep _ _ (by decide))

end Cert.Proof
-- ==== Proof.lean ====
module

public import proofs.«01_k».proof.Defs
public import proofs.«01_k».proof.Proof.Frames
public import proofs.«01_k».proof.Proof.Algebraic

@[expose] public section

noncomputable section

namespace Cert.Proof

/-- Everything the certificate claims. -/
theorem claim : Cert.Claim := ⟨Cert.Kernel.Gen.facts, Cert.KernelIdeal.Gen.facts, Cert.ReferenceIdeal.Gen.facts, Pre.facts,
  kernel_frame, kernelIdeal_frame, (fun m g _ => kernelIdeal_frame m g trivial), ref_frame,
  (fun m g _ => ref_frame m g trivial), trivial, algebraic⟩

end Cert.Proof

end
